-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 1024]⟩ ⟨2, ![1024, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 64]⟩ ⟨2, ![1024, 1024]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x1024 : Shape := ⟨2, ![1024, 1024]⟩
abbrev S1024x64 : Shape := ⟨2, ![1024, 64]⟩
abbrev S16x64x64 : Shape := ⟨3, ![16, 64, 64]⟩
abbrev S16 : Shape := ⟨1, ![16]⟩
abbrev S_ : Shape := ⟨0, ![]⟩
abbrev S1024x128 : Shape := ⟨2, ![1024, 128]⟩
abbrev S64x128 : Shape := ⟨2, ![64, 128]⟩
abbrev S64x64 : Shape := ⟨2, ![64, 64]⟩
abbrev S1x64x64 : Shape := ⟨3, ![1, 64, 64]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S64x1024, .bf16⟩
  | .hbm, ⟨1, _⟩ => ⟨S1024x1024, .bf16⟩
  | .hbm, ⟨2, _⟩ => ⟨S1024x64, .bf16⟩
  | .local _ .vmem, ⟨0, _⟩ => ⟨S64x1024, .bf16⟩
  | .local _ .vmem, ⟨1, _⟩ => ⟨S1024x1024, .bf16⟩
  | .local _ .vmem, ⟨2, _⟩ => ⟨S1024x64, .bf16⟩
  | .local _ .vmem, ⟨3, _⟩ => ⟨S16x64x64, .bf16⟩
  | _, _ => ⟨S64x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_68 : BitVec 32 := 0#32
  let v78 : BitVec 1 := Scalar.cmpi .ne v2 c0_i32_68
  let v79 : BitVec 32 := Scalar.extui v78
  let c0_i32_71 : BitVec 32 := 0#32
  let v80 : BitVec 1 := Scalar.cmpi .ne v79 c0_i32_71
  v80

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v77 : BitVec 32 := Scalar.muli v2 c64_i32
  let c0_i32_377 : BitVec 32 := 0#32
  ![v77.toNat, 0]
def k0_dev16 : Nat :=
  let c0_i32_376 : BitVec 32 := 0#32
  let c0_i32_374 : BitVec 32 := 0#32
  let c1_i32_375 : BitVec 32 := 1#32
  let v386 : BitVec 32 := Scalar.muli c0_i32_374 c1_i32_375
  let v387 : BitVec 32 := Scalar.addi c0_i32_376 v386
  v387.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_72 : BitVec 32 := 0#32
  let v81 : BitVec 1 := Scalar.cmpi .eq v2 c0_i32_72
  let v82 : BitVec 32 := Scalar.extui v81
  let c0_i32_73 : BitVec 32 := 0#32
  let v83 : BitVec 1 := Scalar.cmpi .ne v82 c0_i32_73
  v83

def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_377 : BitVec 32 := 64#32
  let v388 : BitVec 32 := Scalar.muli v2 c64_i32_377
  let v389 : Index := Scalar.indexCast v388
  let c0_378 : Index := 0#32
  ![v389.toNat, 0]
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_77 : BitVec 32 := 1#32
  let v88 : BitVec 1 := Scalar.cmpi .ne v2 c1_i32_77
  let v89 : BitVec 32 := Scalar.extui v88
  let c0_i32_80 : BitVec 32 := 0#32
  let v90 : BitVec 1 := Scalar.cmpi .ne v89 c0_i32_80
  v90

def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_76 : BitVec 32 := 64#32
  let v87 : BitVec 32 := Scalar.muli v2 c64_i32_76
  let c0_i32_377 : BitVec 32 := 0#32
  ![v87.toNat, 0]
def k0_dev17 : Nat :=
  let c0_i32_376 : BitVec 32 := 0#32
  let c1_i32_374 : BitVec 32 := 1#32
  let c1_i32_375 : BitVec 32 := 1#32
  let v386 : BitVec 32 := Scalar.muli c1_i32_374 c1_i32_375
  let v387 : BitVec 32 := Scalar.addi c0_i32_376 v386
  v387.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_81 : BitVec 32 := 1#32
  let v91 : BitVec 1 := Scalar.cmpi .eq v2 c1_i32_81
  let v92 : BitVec 32 := Scalar.extui v91
  let c0_i32_82 : BitVec 32 := 0#32
  let v93 : BitVec 1 := Scalar.cmpi .ne v92 c0_i32_82
  v93

def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_377 : BitVec 32 := 64#32
  let v388 : BitVec 32 := Scalar.muli v2 c64_i32_377
  let v389 : Index := Scalar.indexCast v388
  let c0_378 : Index := 0#32
  ![v389.toNat, 0]
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_89 : BitVec 32 := 2#32
  let v106 : BitVec 1 := Scalar.cmpi .ne v2 c2_i32_89
  let v107 : BitVec 32 := Scalar.extui v106
  let c0_i32_92 : BitVec 32 := 0#32
  let v108 : BitVec 1 := Scalar.cmpi .ne v107 c0_i32_92
  v108

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_88 : BitVec 32 := 64#32
  let v105 : BitVec 32 := Scalar.muli v2 c64_i32_88
  let c0_i32_377 : BitVec 32 := 0#32
  ![v105.toNat, 0]
def k0_dev18 : Nat :=
  let c0_i32_376 : BitVec 32 := 0#32
  let c2_i32_374 : BitVec 32 := 2#32
  let c1_i32_375 : BitVec 32 := 1#32
  let v386 : BitVec 32 := Scalar.muli c2_i32_374 c1_i32_375
  let v387 : BitVec 32 := Scalar.addi c0_i32_376 v386
  v387.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_93 : BitVec 32 := 2#32
  let v109 : BitVec 1 := Scalar.cmpi .eq v2 c2_i32_93
  let v110 : BitVec 32 := Scalar.extui v109
  let c0_i32_94 : BitVec 32 := 0#32
  let v111 : BitVec 1 := Scalar.cmpi .ne v110 c0_i32_94
  v111

def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_377 : BitVec 32 := 64#32
  let v388 : BitVec 32 := Scalar.muli v2 c64_i32_377
  let v389 : Index := Scalar.indexCast v388
  let c0_378 : Index := 0#32
  ![v389.toNat, 0]
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_98 : BitVec 32 := 3#32
  let v116 : BitVec 1 := Scalar.cmpi .ne v2 c3_i32_98
  let v117 : BitVec 32 := Scalar.extui v116
  let c0_i32_101 : BitVec 32 := 0#32
  let v118 : BitVec 1 := Scalar.cmpi .ne v117 c0_i32_101
  v118

def k0_off10 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_97 : BitVec 32 := 64#32
  let v115 : BitVec 32 := Scalar.muli v2 c64_i32_97
  let c0_i32_377 : BitVec 32 := 0#32
  ![v115.toNat, 0]
def k0_dev19 : Nat :=
  let c0_i32_376 : BitVec 32 := 0#32
  let c3_i32_374 : BitVec 32 := 3#32
  let c1_i32_375 : BitVec 32 := 1#32
  let v386 : BitVec 32 := Scalar.muli c3_i32_374 c1_i32_375
  let v387 : BitVec 32 := Scalar.addi c0_i32_376 v386
  v387.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_102 : BitVec 32 := 3#32
  let v119 : BitVec 1 := Scalar.cmpi .eq v2 c3_i32_102
  let v120 : BitVec 32 := Scalar.extui v119
  let c0_i32_103 : BitVec 32 := 0#32
  let v121 : BitVec 1 := Scalar.cmpi .ne v120 c0_i32_103
  v121

def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_377 : BitVec 32 := 64#32
  let v388 : BitVec 32 := Scalar.muli v2 c64_i32_377
  let v389 : Index := Scalar.indexCast v388
  let c0_378 : Index := 0#32
  ![v389.toNat, 0]
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_110 : BitVec 32 := 4#32
  let v134 : BitVec 1 := Scalar.cmpi .ne v2 c4_i32_110
  let v135 : BitVec 32 := Scalar.extui v134
  let c0_i32_113 : BitVec 32 := 0#32
  let v136 : BitVec 1 := Scalar.cmpi .ne v135 c0_i32_113
  v136

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_109 : BitVec 32 := 64#32
  let v133 : BitVec 32 := Scalar.muli v2 c64_i32_109
  let c0_i32_377 : BitVec 32 := 0#32
  ![v133.toNat, 0]
def k0_dev20 : Nat :=
  let c0_i32_376 : BitVec 32 := 0#32
  let c4_i32_374 : BitVec 32 := 4#32
  let c1_i32_375 : BitVec 32 := 1#32
  let v386 : BitVec 32 := Scalar.muli c4_i32_374 c1_i32_375
  let v387 : BitVec 32 := Scalar.addi c0_i32_376 v386
  v387.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_114 : BitVec 32 := 4#32
  let v137 : BitVec 1 := Scalar.cmpi .eq v2 c4_i32_114
  let v138 : BitVec 32 := Scalar.extui v137
  let c0_i32_115 : BitVec 32 := 0#32
  let v139 : BitVec 1 := Scalar.cmpi .ne v138 c0_i32_115
  v139

def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_377 : BitVec 32 := 64#32
  let v388 : BitVec 32 := Scalar.muli v2 c64_i32_377
  let v389 : Index := Scalar.indexCast v388
  let c0_378 : Index := 0#32
  ![v389.toNat, 0]
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_119 : BitVec 32 := 5#32
  let v144 : BitVec 1 := Scalar.cmpi .ne v2 c5_i32_119
  let v145 : BitVec 32 := Scalar.extui v144
  let c0_i32_122 : BitVec 32 := 0#32
  let v146 : BitVec 1 := Scalar.cmpi .ne v145 c0_i32_122
  v146

def k0_off16 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_118 : BitVec 32 := 64#32
  let v143 : BitVec 32 := Scalar.muli v2 c64_i32_118
  let c0_i32_377 : BitVec 32 := 0#32
  ![v143.toNat, 0]
def k0_dev21 : Nat :=
  let c0_i32_376 : BitVec 32 := 0#32
  let c5_i32_374 : BitVec 32 := 5#32
  let c1_i32_375 : BitVec 32 := 1#32
  let v386 : BitVec 32 := Scalar.muli c5_i32_374 c1_i32_375
  let v387 : BitVec 32 := Scalar.addi c0_i32_376 v386
  v387.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_123 : BitVec 32 := 5#32
  let v147 : BitVec 1 := Scalar.cmpi .eq v2 c5_i32_123
  let v148 : BitVec 32 := Scalar.extui v147
  let c0_i32_124 : BitVec 32 := 0#32
  let v149 : BitVec 1 := Scalar.cmpi .ne v148 c0_i32_124
  v149

def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_377 : BitVec 32 := 64#32
  let v388 : BitVec 32 := Scalar.muli v2 c64_i32_377
  let v389 : Index := Scalar.indexCast v388
  let c0_378 : Index := 0#32
  ![v389.toNat, 0]
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_131 : BitVec 32 := 6#32
  let v162 : BitVec 1 := Scalar.cmpi .ne v2 c6_i32_131
  let v163 : BitVec 32 := Scalar.extui v162
  let c0_i32_134 : BitVec 32 := 0#32
  let v164 : BitVec 1 := Scalar.cmpi .ne v163 c0_i32_134
  v164

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_130 : BitVec 32 := 64#32
  let v161 : BitVec 32 := Scalar.muli v2 c64_i32_130
  let c0_i32_377 : BitVec 32 := 0#32
  ![v161.toNat, 0]
def k0_dev22 : Nat :=
  let c0_i32_376 : BitVec 32 := 0#32
  let c6_i32_374 : BitVec 32 := 6#32
  let c1_i32_375 : BitVec 32 := 1#32
  let v386 : BitVec 32 := Scalar.muli c6_i32_374 c1_i32_375
  let v387 : BitVec 32 := Scalar.addi c0_i32_376 v386
  v387.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_135 : BitVec 32 := 6#32
  let v165 : BitVec 1 := Scalar.cmpi .eq v2 c6_i32_135
  let v166 : BitVec 32 := Scalar.extui v165
  let c0_i32_136 : BitVec 32 := 0#32
  let v167 : BitVec 1 := Scalar.cmpi .ne v166 c0_i32_136
  v167

def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_377 : BitVec 32 := 64#32
  let v388 : BitVec 32 := Scalar.muli v2 c64_i32_377
  let v389 : Index := Scalar.indexCast v388
  let c0_378 : Index := 0#32
  ![v389.toNat, 0]
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_140 : BitVec 32 := 7#32
  let v172 : BitVec 1 := Scalar.cmpi .ne v2 c7_i32_140
  let v173 : BitVec 32 := Scalar.extui v172
  let c0_i32_143 : BitVec 32 := 0#32
  let v174 : BitVec 1 := Scalar.cmpi .ne v173 c0_i32_143
  v174

def k0_off22 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_139 : BitVec 32 := 64#32
  let v171 : BitVec 32 := Scalar.muli v2 c64_i32_139
  let c0_i32_377 : BitVec 32 := 0#32
  ![v171.toNat, 0]
def k0_dev23 : Nat :=
  let c0_i32_376 : BitVec 32 := 0#32
  let c7_i32_374 : BitVec 32 := 7#32
  let c1_i32_375 : BitVec 32 := 1#32
  let v386 : BitVec 32 := Scalar.muli c7_i32_374 c1_i32_375
  let v387 : BitVec 32 := Scalar.addi c0_i32_376 v386
  v387.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_144 : BitVec 32 := 7#32
  let v175 : BitVec 1 := Scalar.cmpi .eq v2 c7_i32_144
  let v176 : BitVec 32 := Scalar.extui v175
  let c0_i32_145 : BitVec 32 := 0#32
  let v177 : BitVec 1 := Scalar.cmpi .ne v176 c0_i32_145
  v177

def k0_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_377 : BitVec 32 := 64#32
  let v388 : BitVec 32 := Scalar.muli v2 c64_i32_377
  let v389 : Index := Scalar.indexCast v388
  let c0_378 : Index := 0#32
  ![v389.toNat, 0]
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_152 : BitVec 32 := 8#32
  let v190 : BitVec 1 := Scalar.cmpi .ne v2 c8_i32_152
  let v191 : BitVec 32 := Scalar.extui v190
  let c0_i32_155 : BitVec 32 := 0#32
  let v192 : BitVec 1 := Scalar.cmpi .ne v191 c0_i32_155
  v192

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_151 : BitVec 32 := 64#32
  let v189 : BitVec 32 := Scalar.muli v2 c64_i32_151
  let c0_i32_377 : BitVec 32 := 0#32
  ![v189.toNat, 0]
def k0_dev24 : Nat :=
  let c0_i32_376 : BitVec 32 := 0#32
  let c8_i32_374 : BitVec 32 := 8#32
  let c1_i32_375 : BitVec 32 := 1#32
  let v386 : BitVec 32 := Scalar.muli c8_i32_374 c1_i32_375
  let v387 : BitVec 32 := Scalar.addi c0_i32_376 v386
  v387.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_156 : BitVec 32 := 8#32
  let v193 : BitVec 1 := Scalar.cmpi .eq v2 c8_i32_156
  let v194 : BitVec 32 := Scalar.extui v193
  let c0_i32_157 : BitVec 32 := 0#32
  let v195 : BitVec 1 := Scalar.cmpi .ne v194 c0_i32_157
  v195

def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_377 : BitVec 32 := 64#32
  let v388 : BitVec 32 := Scalar.muli v2 c64_i32_377
  let v389 : Index := Scalar.indexCast v388
  let c0_378 : Index := 0#32
  ![v389.toNat, 0]
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_161 : BitVec 32 := 9#32
  let v200 : BitVec 1 := Scalar.cmpi .ne v2 c9_i32_161
  let v201 : BitVec 32 := Scalar.extui v200
  let c0_i32_164 : BitVec 32 := 0#32
  let v202 : BitVec 1 := Scalar.cmpi .ne v201 c0_i32_164
  v202

def k0_off28 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off29 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_160 : BitVec 32 := 64#32
  let v199 : BitVec 32 := Scalar.muli v2 c64_i32_160
  let c0_i32_377 : BitVec 32 := 0#32
  ![v199.toNat, 0]
def k0_dev25 : Nat :=
  let c0_i32_376 : BitVec 32 := 0#32
  let c9_i32_374 : BitVec 32 := 9#32
  let c1_i32_375 : BitVec 32 := 1#32
  let v386 : BitVec 32 := Scalar.muli c9_i32_374 c1_i32_375
  let v387 : BitVec 32 := Scalar.addi c0_i32_376 v386
  v387.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_165 : BitVec 32 := 9#32
  let v203 : BitVec 1 := Scalar.cmpi .eq v2 c9_i32_165
  let v204 : BitVec 32 := Scalar.extui v203
  let c0_i32_166 : BitVec 32 := 0#32
  let v205 : BitVec 1 := Scalar.cmpi .ne v204 c0_i32_166
  v205

def k0_off30 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_377 : BitVec 32 := 64#32
  let v388 : BitVec 32 := Scalar.muli v2 c64_i32_377
  let v389 : Index := Scalar.indexCast v388
  let c0_378 : Index := 0#32
  ![v389.toNat, 0]
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_173 : BitVec 32 := 10#32
  let v218 : BitVec 1 := Scalar.cmpi .ne v2 c10_i32_173
  let v219 : BitVec 32 := Scalar.extui v218
  let c0_i32_176 : BitVec 32 := 0#32
  let v220 : BitVec 1 := Scalar.cmpi .ne v219 c0_i32_176
  v220

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off32 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_172 : BitVec 32 := 64#32
  let v217 : BitVec 32 := Scalar.muli v2 c64_i32_172
  let c0_i32_377 : BitVec 32 := 0#32
  ![v217.toNat, 0]
def k0_dev26 : Nat :=
  let c0_i32_376 : BitVec 32 := 0#32
  let c10_i32_374 : BitVec 32 := 10#32
  let c1_i32_375 : BitVec 32 := 1#32
  let v386 : BitVec 32 := Scalar.muli c10_i32_374 c1_i32_375
  let v387 : BitVec 32 := Scalar.addi c0_i32_376 v386
  v387.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_177 : BitVec 32 := 10#32
  let v221 : BitVec 1 := Scalar.cmpi .eq v2 c10_i32_177
  let v222 : BitVec 32 := Scalar.extui v221
  let c0_i32_178 : BitVec 32 := 0#32
  let v223 : BitVec 1 := Scalar.cmpi .ne v222 c0_i32_178
  v223

def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_377 : BitVec 32 := 64#32
  let v388 : BitVec 32 := Scalar.muli v2 c64_i32_377
  let v389 : Index := Scalar.indexCast v388
  let c0_378 : Index := 0#32
  ![v389.toNat, 0]
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_182 : BitVec 32 := 11#32
  let v228 : BitVec 1 := Scalar.cmpi .ne v2 c11_i32_182
  let v229 : BitVec 32 := Scalar.extui v228
  let c0_i32_185 : BitVec 32 := 0#32
  let v230 : BitVec 1 := Scalar.cmpi .ne v229 c0_i32_185
  v230

def k0_off34 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_181 : BitVec 32 := 64#32
  let v227 : BitVec 32 := Scalar.muli v2 c64_i32_181
  let c0_i32_377 : BitVec 32 := 0#32
  ![v227.toNat, 0]
def k0_dev27 : Nat :=
  let c0_i32_376 : BitVec 32 := 0#32
  let c11_i32_374 : BitVec 32 := 11#32
  let c1_i32_375 : BitVec 32 := 1#32
  let v386 : BitVec 32 := Scalar.muli c11_i32_374 c1_i32_375
  let v387 : BitVec 32 := Scalar.addi c0_i32_376 v386
  v387.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_186 : BitVec 32 := 11#32
  let v231 : BitVec 1 := Scalar.cmpi .eq v2 c11_i32_186
  let v232 : BitVec 32 := Scalar.extui v231
  let c0_i32_187 : BitVec 32 := 0#32
  let v233 : BitVec 1 := Scalar.cmpi .ne v232 c0_i32_187
  v233

def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_377 : BitVec 32 := 64#32
  let v388 : BitVec 32 := Scalar.muli v2 c64_i32_377
  let v389 : Index := Scalar.indexCast v388
  let c0_378 : Index := 0#32
  ![v389.toNat, 0]
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_194 : BitVec 32 := 12#32
  let v246 : BitVec 1 := Scalar.cmpi .ne v2 c12_i32_194
  let v247 : BitVec 32 := Scalar.extui v246
  let c0_i32_197 : BitVec 32 := 0#32
  let v248 : BitVec 1 := Scalar.cmpi .ne v247 c0_i32_197
  v248

def k0_off37 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off38 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_193 : BitVec 32 := 64#32
  let v245 : BitVec 32 := Scalar.muli v2 c64_i32_193
  let c0_i32_377 : BitVec 32 := 0#32
  ![v245.toNat, 0]
def k0_dev28 : Nat :=
  let c0_i32_376 : BitVec 32 := 0#32
  let c12_i32_374 : BitVec 32 := 12#32
  let c1_i32_375 : BitVec 32 := 1#32
  let v386 : BitVec 32 := Scalar.muli c12_i32_374 c1_i32_375
  let v387 : BitVec 32 := Scalar.addi c0_i32_376 v386
  v387.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_198 : BitVec 32 := 12#32
  let v249 : BitVec 1 := Scalar.cmpi .eq v2 c12_i32_198
  let v250 : BitVec 32 := Scalar.extui v249
  let c0_i32_199 : BitVec 32 := 0#32
  let v251 : BitVec 1 := Scalar.cmpi .ne v250 c0_i32_199
  v251

def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_377 : BitVec 32 := 64#32
  let v388 : BitVec 32 := Scalar.muli v2 c64_i32_377
  let v389 : Index := Scalar.indexCast v388
  let c0_378 : Index := 0#32
  ![v389.toNat, 0]
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_203 : BitVec 32 := 13#32
  let v256 : BitVec 1 := Scalar.cmpi .ne v2 c13_i32_203
  let v257 : BitVec 32 := Scalar.extui v256
  let c0_i32_206 : BitVec 32 := 0#32
  let v258 : BitVec 1 := Scalar.cmpi .ne v257 c0_i32_206
  v258

def k0_off40 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_202 : BitVec 32 := 64#32
  let v255 : BitVec 32 := Scalar.muli v2 c64_i32_202
  let c0_i32_377 : BitVec 32 := 0#32
  ![v255.toNat, 0]
def k0_dev29 : Nat :=
  let c0_i32_376 : BitVec 32 := 0#32
  let c13_i32_374 : BitVec 32 := 13#32
  let c1_i32_375 : BitVec 32 := 1#32
  let v386 : BitVec 32 := Scalar.muli c13_i32_374 c1_i32_375
  let v387 : BitVec 32 := Scalar.addi c0_i32_376 v386
  v387.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_207 : BitVec 32 := 13#32
  let v259 : BitVec 1 := Scalar.cmpi .eq v2 c13_i32_207
  let v260 : BitVec 32 := Scalar.extui v259
  let c0_i32_208 : BitVec 32 := 0#32
  let v261 : BitVec 1 := Scalar.cmpi .ne v260 c0_i32_208
  v261

def k0_off42 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_377 : BitVec 32 := 64#32
  let v388 : BitVec 32 := Scalar.muli v2 c64_i32_377
  let v389 : Index := Scalar.indexCast v388
  let c0_378 : Index := 0#32
  ![v389.toNat, 0]
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_215 : BitVec 32 := 14#32
  let v274 : BitVec 1 := Scalar.cmpi .ne v2 c14_i32_215
  let v275 : BitVec 32 := Scalar.extui v274
  let c0_i32_218 : BitVec 32 := 0#32
  let v276 : BitVec 1 := Scalar.cmpi .ne v275 c0_i32_218
  v276

def k0_off43 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off44 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_214 : BitVec 32 := 64#32
  let v273 : BitVec 32 := Scalar.muli v2 c64_i32_214
  let c0_i32_377 : BitVec 32 := 0#32
  ![v273.toNat, 0]
def k0_dev30 : Nat :=
  let c0_i32_376 : BitVec 32 := 0#32
  let c14_i32_374 : BitVec 32 := 14#32
  let c1_i32_375 : BitVec 32 := 1#32
  let v386 : BitVec 32 := Scalar.muli c14_i32_374 c1_i32_375
  let v387 : BitVec 32 := Scalar.addi c0_i32_376 v386
  v387.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_219 : BitVec 32 := 14#32
  let v277 : BitVec 1 := Scalar.cmpi .eq v2 c14_i32_219
  let v278 : BitVec 32 := Scalar.extui v277
  let c0_i32_220 : BitVec 32 := 0#32
  let v279 : BitVec 1 := Scalar.cmpi .ne v278 c0_i32_220
  v279

def k0_off45 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_377 : BitVec 32 := 64#32
  let v388 : BitVec 32 := Scalar.muli v2 c64_i32_377
  let v389 : Index := Scalar.indexCast v388
  let c0_378 : Index := 0#32
  ![v389.toNat, 0]
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_224 : BitVec 32 := 15#32
  let v284 : BitVec 1 := Scalar.cmpi .ne v2 c15_i32_224
  let v285 : BitVec 32 := Scalar.extui v284
  let c0_i32_227 : BitVec 32 := 0#32
  let v286 : BitVec 1 := Scalar.cmpi .ne v285 c0_i32_227
  v286

def k0_off46 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off47 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_223 : BitVec 32 := 64#32
  let v283 : BitVec 32 := Scalar.muli v2 c64_i32_223
  let c0_i32_377 : BitVec 32 := 0#32
  ![v283.toNat, 0]
def k0_dev31 : Nat :=
  let c0_i32_376 : BitVec 32 := 0#32
  let c15_i32_374 : BitVec 32 := 15#32
  let c1_i32_375 : BitVec 32 := 1#32
  let v386 : BitVec 32 := Scalar.muli c15_i32_374 c1_i32_375
  let v387 : BitVec 32 := Scalar.addi c0_i32_376 v386
  v387.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_228 : BitVec 32 := 15#32
  let v287 : BitVec 1 := Scalar.cmpi .eq v2 c15_i32_228
  let v288 : BitVec 32 := Scalar.extui v287
  let c0_i32_229 : BitVec 32 := 0#32
  let v289 : BitVec 1 := Scalar.cmpi .ne v288 c0_i32_229
  v289

def k0_off48 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_377 : BitVec 32 := 64#32
  let v388 : BitVec 32 := Scalar.muli v2 c64_i32_377
  let v389 : Index := Scalar.indexCast v388
  let c0_378 : Index := 0#32
  ![v389.toNat, 0]
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_230 : BitVec 32 := 0#32
  let v290 : BitVec 1 := Scalar.cmpi .ne v2 c0_i32_230
  let v291 : BitVec 32 := Scalar.extui v290
  let c0_i32_233 : BitVec 32 := 0#32
  let v292 : BitVec 1 := Scalar.cmpi .ne v291 c0_i32_233
  v292

def k0_off49 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v77 : BitVec 32 := Scalar.muli v2 c64_i32
  let c0_i32_378 : BitVec 32 := 0#32
  ![v77.toNat, 0]
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_234 : BitVec 32 := 1#32
  let v293 : BitVec 1 := Scalar.cmpi .ne v2 c1_i32_234
  let v294 : BitVec 32 := Scalar.extui v293
  let c0_i32_237 : BitVec 32 := 0#32
  let v295 : BitVec 1 := Scalar.cmpi .ne v294 c0_i32_237
  v295

def k0_off50 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_76 : BitVec 32 := 64#32
  let v87 : BitVec 32 := Scalar.muli v2 c64_i32_76
  let c0_i32_378 : BitVec 32 := 0#32
  ![v87.toNat, 0]
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_238 : BitVec 32 := 2#32
  let v296 : BitVec 1 := Scalar.cmpi .ne v2 c2_i32_238
  let v297 : BitVec 32 := Scalar.extui v296
  let c0_i32_241 : BitVec 32 := 0#32
  let v298 : BitVec 1 := Scalar.cmpi .ne v297 c0_i32_241
  v298

def k0_off51 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_88 : BitVec 32 := 64#32
  let v105 : BitVec 32 := Scalar.muli v2 c64_i32_88
  let c0_i32_378 : BitVec 32 := 0#32
  ![v105.toNat, 0]
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_242 : BitVec 32 := 3#32
  let v299 : BitVec 1 := Scalar.cmpi .ne v2 c3_i32_242
  let v300 : BitVec 32 := Scalar.extui v299
  let c0_i32_245 : BitVec 32 := 0#32
  let v301 : BitVec 1 := Scalar.cmpi .ne v300 c0_i32_245
  v301

def k0_off52 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_97 : BitVec 32 := 64#32
  let v115 : BitVec 32 := Scalar.muli v2 c64_i32_97
  let c0_i32_378 : BitVec 32 := 0#32
  ![v115.toNat, 0]
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_246 : BitVec 32 := 4#32
  let v302 : BitVec 1 := Scalar.cmpi .ne v2 c4_i32_246
  let v303 : BitVec 32 := Scalar.extui v302
  let c0_i32_249 : BitVec 32 := 0#32
  let v304 : BitVec 1 := Scalar.cmpi .ne v303 c0_i32_249
  v304

def k0_off53 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_109 : BitVec 32 := 64#32
  let v133 : BitVec 32 := Scalar.muli v2 c64_i32_109
  let c0_i32_378 : BitVec 32 := 0#32
  ![v133.toNat, 0]
def k0_cond38 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_250 : BitVec 32 := 5#32
  let v305 : BitVec 1 := Scalar.cmpi .ne v2 c5_i32_250
  let v306 : BitVec 32 := Scalar.extui v305
  let c0_i32_253 : BitVec 32 := 0#32
  let v307 : BitVec 1 := Scalar.cmpi .ne v306 c0_i32_253
  v307

def k0_off54 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_118 : BitVec 32 := 64#32
  let v143 : BitVec 32 := Scalar.muli v2 c64_i32_118
  let c0_i32_378 : BitVec 32 := 0#32
  ![v143.toNat, 0]
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_254 : BitVec 32 := 6#32
  let v308 : BitVec 1 := Scalar.cmpi .ne v2 c6_i32_254
  let v309 : BitVec 32 := Scalar.extui v308
  let c0_i32_257 : BitVec 32 := 0#32
  let v310 : BitVec 1 := Scalar.cmpi .ne v309 c0_i32_257
  v310

def k0_off55 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_130 : BitVec 32 := 64#32
  let v161 : BitVec 32 := Scalar.muli v2 c64_i32_130
  let c0_i32_378 : BitVec 32 := 0#32
  ![v161.toNat, 0]
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_258 : BitVec 32 := 7#32
  let v311 : BitVec 1 := Scalar.cmpi .ne v2 c7_i32_258
  let v312 : BitVec 32 := Scalar.extui v311
  let c0_i32_261 : BitVec 32 := 0#32
  let v313 : BitVec 1 := Scalar.cmpi .ne v312 c0_i32_261
  v313

def k0_off56 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_139 : BitVec 32 := 64#32
  let v171 : BitVec 32 := Scalar.muli v2 c64_i32_139
  let c0_i32_378 : BitVec 32 := 0#32
  ![v171.toNat, 0]
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_262 : BitVec 32 := 8#32
  let v314 : BitVec 1 := Scalar.cmpi .ne v2 c8_i32_262
  let v315 : BitVec 32 := Scalar.extui v314
  let c0_i32_265 : BitVec 32 := 0#32
  let v316 : BitVec 1 := Scalar.cmpi .ne v315 c0_i32_265
  v316

def k0_off57 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_151 : BitVec 32 := 64#32
  let v189 : BitVec 32 := Scalar.muli v2 c64_i32_151
  let c0_i32_378 : BitVec 32 := 0#32
  ![v189.toNat, 0]
def k0_cond42 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_266 : BitVec 32 := 9#32
  let v317 : BitVec 1 := Scalar.cmpi .ne v2 c9_i32_266
  let v318 : BitVec 32 := Scalar.extui v317
  let c0_i32_269 : BitVec 32 := 0#32
  let v319 : BitVec 1 := Scalar.cmpi .ne v318 c0_i32_269
  v319

def k0_off58 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_160 : BitVec 32 := 64#32
  let v199 : BitVec 32 := Scalar.muli v2 c64_i32_160
  let c0_i32_378 : BitVec 32 := 0#32
  ![v199.toNat, 0]
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_270 : BitVec 32 := 10#32
  let v320 : BitVec 1 := Scalar.cmpi .ne v2 c10_i32_270
  let v321 : BitVec 32 := Scalar.extui v320
  let c0_i32_273 : BitVec 32 := 0#32
  let v322 : BitVec 1 := Scalar.cmpi .ne v321 c0_i32_273
  v322

def k0_off59 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_172 : BitVec 32 := 64#32
  let v217 : BitVec 32 := Scalar.muli v2 c64_i32_172
  let c0_i32_378 : BitVec 32 := 0#32
  ![v217.toNat, 0]
def k0_cond44 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_274 : BitVec 32 := 11#32
  let v323 : BitVec 1 := Scalar.cmpi .ne v2 c11_i32_274
  let v324 : BitVec 32 := Scalar.extui v323
  let c0_i32_277 : BitVec 32 := 0#32
  let v325 : BitVec 1 := Scalar.cmpi .ne v324 c0_i32_277
  v325

def k0_off60 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_181 : BitVec 32 := 64#32
  let v227 : BitVec 32 := Scalar.muli v2 c64_i32_181
  let c0_i32_378 : BitVec 32 := 0#32
  ![v227.toNat, 0]
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_278 : BitVec 32 := 12#32
  let v326 : BitVec 1 := Scalar.cmpi .ne v2 c12_i32_278
  let v327 : BitVec 32 := Scalar.extui v326
  let c0_i32_281 : BitVec 32 := 0#32
  let v328 : BitVec 1 := Scalar.cmpi .ne v327 c0_i32_281
  v328

def k0_off61 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_193 : BitVec 32 := 64#32
  let v245 : BitVec 32 := Scalar.muli v2 c64_i32_193
  let c0_i32_378 : BitVec 32 := 0#32
  ![v245.toNat, 0]
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_282 : BitVec 32 := 13#32
  let v329 : BitVec 1 := Scalar.cmpi .ne v2 c13_i32_282
  let v330 : BitVec 32 := Scalar.extui v329
  let c0_i32_285 : BitVec 32 := 0#32
  let v331 : BitVec 1 := Scalar.cmpi .ne v330 c0_i32_285
  v331

def k0_off62 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_202 : BitVec 32 := 64#32
  let v255 : BitVec 32 := Scalar.muli v2 c64_i32_202
  let c0_i32_378 : BitVec 32 := 0#32
  ![v255.toNat, 0]
def k0_cond47 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_286 : BitVec 32 := 14#32
  let v332 : BitVec 1 := Scalar.cmpi .ne v2 c14_i32_286
  let v333 : BitVec 32 := Scalar.extui v332
  let c0_i32_289 : BitVec 32 := 0#32
  let v334 : BitVec 1 := Scalar.cmpi .ne v333 c0_i32_289
  v334

def k0_off63 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_214 : BitVec 32 := 64#32
  let v273 : BitVec 32 := Scalar.muli v2 c64_i32_214
  let c0_i32_378 : BitVec 32 := 0#32
  ![v273.toNat, 0]
def k0_cond48 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_290 : BitVec 32 := 15#32
  let v335 : BitVec 1 := Scalar.cmpi .ne v2 c15_i32_290
  let v336 : BitVec 32 := Scalar.extui v335
  let c0_i32_293 : BitVec 32 := 0#32
  let v337 : BitVec 1 := Scalar.cmpi .ne v336 c0_i32_293
  v337

def k0_off64 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_223 : BitVec 32 := 64#32
  let v283 : BitVec 32 := Scalar.muli v2 c64_i32_223
  let c0_i32_378 : BitVec 32 := 0#32
  ![v283.toNat, 0]
abbrev stage0_0 : Fin 1 → Memref sig .tc .vmem S64x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .bf16⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Common.lean ====
/-
# The all-to-all kernel: buffers, semaphore cells, contents and the round schedule

Sixteen devices each hold a row block of `x` and the whole of `w`. Device `c` computes the sixteen 64×64 slabs of
`relu (x_c · w)` and sends slab `j` to device `j`, into rows `64 * c … 64 * c + 63` of that device's result; its own
slab it copies. Before any copy every device has signalled the fifteen others on the barrier semaphore and has waited
for their fifteen signals. This module names what the proof talks about: the memory references, the semaphore cells,
what every buffer holds, the duties of every cell and the levels that order the waits.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.ValueKit
public import Idealize.ShloMosaic.Lib.Ring
public import Idealize.ShloMosaic.Lib.Tactic

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy, and the protocol's with a device naming each duty -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Memory references and their blocks -/

abbrev xM : Memref sig .tc .vmem S64x1024 .bf16 := Memref.whole cc0_stg0_0
abbrev wM : Memref sig .tc .vmem S1024x1024 .bf16 := Memref.whole cc0_stg1_0
abbrev oM : Memref sig .tc .vmem S1024x64 .bf16 := Memref.whole cc0_stg2_0
abbrev yM : Memref sig .tc .vmem S16x64x64 .bf16 := Memref.whole cc0_scratch0

theorem inb_o (s : Dev nD) : ∀ a, (![64 * s.val, 0] : Fin 2 → ℕ) a + S64x64.size a ≤ S1024x64.size a := by
  have hs : s.val < 16 := s.isLt
  intro a; fin_cases a
  · show 64 * s.val + 64 ≤ 1024; omega
  · show 0 + 64 ≤ 64; omega

theorem inb_y (j : Dev nD) : ∀ a, (![j.val, 0, 0] : Fin 3 → ℕ) a + S1x64x64.size a ≤ S16x64x64.size a := by
  have hj : j.val < 16 := j.isLt
  intro a; fin_cases a
  · show j.val + 1 ≤ 16; omega
  · show 0 + 64 ≤ 64; omega
  · show 0 + 64 ≤ 64; omega

theorem inb_s (j : Dev nD) : ∀ a, (![j.val] : Fin 1 → ℕ) a + S1.size a ≤ S16.size a := by
  have hj : j.val < 16 := j.isLt
  intro a; fin_cases a; show j.val + 1 ≤ 16; omega

/-- The rows of the result that device `s` fills. -/
abbrev rO (s : Dev nD) : Rect S1024x64 := Rect.unit (s := S1024x64) ![64 * s.val, 0] S64x64.size (inb_o s)
/-- Slab `j` of the scratch buffer. -/
abbrev rY (j : Dev nD) : Rect S16x64x64 := Rect.unit (s := S16x64x64) ![j.val, 0, 0] S1x64x64.size (inb_y j)

abbrev oBl (s : Dev nD) : Memref sig .tc .vmem S64x64 .bf16 := oM.slice (rO s) (fun _ => rfl)
abbrev ySl (j : Dev nD) : Memref sig .tc .vmem S64x64 .bf16 :=
  (yM.slice (rY j) (fun _ => rfl)).squeeze S64x64 squeezes_S1x64x64_S64x64

/-! ## Semaphores and cells -/

abbrev barS : Sem sig := (SemArray.scalar (sig.barrier 0 rfl) : Sems sig S_).sem
def sendS (j : Dev nD) : DmaSem sig :=
  ((cc0_scratch1.slice (Rect.unit (s := S16) ![j.val] S1.size (inb_s j))).squeeze S_ squeezes_S1_S_).sem
def recvS (j : Dev nD) : DmaSem sig :=
  ((cc0_scratch2.slice (Rect.unit (s := S16) ![j.val] S1.size (inb_s j))).squeeze S_ squeezes_S1_S_).sem

theorem sendS_val (j : Dev nD) : (sendS j).val = 3 + j.val := by revert j; decide +kernel
theorem recvS_val (j : Dev nD) : (recvS j).val = 19 + j.val := by revert j; decide +kernel

abbrev barCell (c : Dev nD) : GSem nD τ sig := ((c : Thread nD τ), .reg barS)
abbrev sendCell (c j : Dev nD) : GSem nD τ sig := ((c : Thread nD τ), .dma (sendS j))
abbrev recvCell (c s : Dev nD) : GSem nD τ sig := ((c : Thread nD τ), .dma (recvS s))

/-- What a semaphore is used for. -/
inductive Role where
  | bar
  | send (j : Dev nD)
  | recv (s : Dev nD)
  | other

/-- The use of a DMA semaphore, by its number: 3 … 18 the send array, 19 … 34 the receive array. -/
def roleDma (n : ℕ) : Role :=
  if h : 3 ≤ n ∧ n < 19 then .send ⟨n - 3, by show n - 3 < 16; omega⟩
  else if h : 19 ≤ n ∧ n < 35 then .recv ⟨n - 19, by show n - 19 < 16; omega⟩
  else .other

def role : SemLoc sig → Role
  | .reg _ => .bar
  | .dma q => roleDma q.val

theorem role_bar : role (.reg barS) = .bar := rfl
theorem role_send (j : Dev nD) : role (.dma (sendS j)) = .send j := by
  have hj : j.val < 16 := j.isLt
  show roleDma (sendS j).val = _
  unfold roleDma
  rw [sendS_val, dif_pos (by omega)]
  exact congrArg Role.send (Fin.ext (by show 3 + j.val - 3 = j.val; omega))
theorem role_recv (s : Dev nD) : role (.dma (recvS s)) = .recv s := by
  have hs : s.val < 16 := s.isLt
  show roleDma (recvS s).val = _
  unfold roleDma
  rw [recvS_val, dif_neg (by omega), dif_pos (by omega)]
  exact congrArg Role.recv (Fin.ext (by show 19 + s.val - 19 = s.val; omega))

/-- The kernel's own semaphores: the send array, then the receive array. -/
abbrev osem : Dev nD ⊕ Dev nD → SemLoc sig
  | .inl j => .dma (sendS j)
  | .inr s => .dma (recvS s)
/-- All the semaphores of the protocol: the barrier's first. -/
abbrev csem : Unit ⊕ (Dev nD ⊕ Dev nD) → SemLoc sig
  | .inl _ => .reg barS
  | .inr o => osem o
/-- The index of a cell: its device and its semaphore. -/
abbrev Ck : Type := Dev nD × (Unit ⊕ (Dev nD ⊕ Dev nD))
abbrev kcell (ck : Ck) : GSem nD τ sig := ((ck.1 : Thread nD τ), csem ck.2)

theorem csem_injective : Function.Injective csem := by
  intro a b h
  have hr := congrArg role h
  rcases a with ⟨⟩ | a | a <;> rcases b with ⟨⟩ | b | b <;>
    simp only [csem, osem, role_bar, role_send, role_recv, reduceCtorEq, Role.send.injEq, Role.recv.injEq] at hr
  · rfl
  · rw [hr]
  · rw [hr]

theorem kcell_injective : Function.Injective (kcell : Ck → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- The bytes' worth of one slab's copy, as a semaphore counts it. -/
def N : ℕ := (oBl 0).view.dmaCredit
theorem N_pos : 0 < N := View.dmaCredit_pos _ (by decide)
theorem N_y (j : Dev nD) : (ySl j).view.dmaCredit = N := rfl
theorem N_o (s : Dev nD) : (oBl s).view.dmaCredit = N := rfl

/-! ## Contents -/

/-- Device `c`'s rows of `x`, as staged. -/
def xstg (c : Dev nD) : (cc0_stg0_0 : Ref sig .tc).ty.Contents (Elt F) :=
  (win0_0.blk (0 : Fin 1)).view.read (Elt F) (m ((c : Thread nD τ).loc main_arg0))
/-- Device `c`'s copy of `w`, as staged. -/
def wstg (c : Dev nD) : (cc0_stg1_0 : Ref sig .tc).ty.Contents (Elt F) :=
  (win0_1.blk (0 : Fin 1)).view.read (Elt F) (m ((c : Thread nD τ).loc main_arg1))

theorem inb_w (q : Fin 8) : ∀ a, (![0, 128 * q.val] : Fin 2 → ℕ) a + S1024x128.size a ≤ S1024x1024.size a := by
  have hq : q.val < 8 := q.isLt
  intro a; fin_cases a
  · show 0 + 1024 ≤ 1024; omega
  · show 128 * q.val + 128 ≤ 1024; omega

/-- Columns `128 * q … 128 * q + 127` of `w`. -/
abbrev rW (q : Fin 8) : Rect S1024x1024 := Rect.unit (s := S1024x1024) ![0, 128 * q.val] S1024x128.size (inb_w q)
abbrev rX : Rect S64x1024 := Rect.unit (s := S64x1024) ![0, 0] S64x1024.size inb_S64x1024_S64x1024_0_0

/-- What the load of `x` reads on device `c`. -/
def xval (c : Dev nD) : Vec F S64x1024 .bf16 := xM.view.readAt (Elt F) rX.toLoadRect (xstg m c)
/-- What the load of the `q`-th column block of `w` reads on device `c`. -/
def wval (c : Dev nD) (q : Fin 8) : Vec F S1024x128 .bf16 := wM.view.readAt (Elt F) (rW q).toLoadRect (wstg m c)

/-- Two neighbouring slabs of device `c`, side by side: `relu (x_c · w)` on the `q`-th column block. -/
def pair (c : Dev nD) (q : Fin 8) : FVec F S64x128 .bf16 := k0_pay2 (xval m c) (wval m c q)

/-- The left or the right half of a pair. -/
def half (b : Bool) (P : FVec F S64x128 .bf16) : FVec F S64x64 .bf16 :=
  if b then extractStridedSlice S64x64 ![0, 64] P slices_S64x128_o0_64_S64x64
  else extractStridedSlice S64x64 ![0, 0] P slices_S64x128_o0_0_S64x64

/-- The slab device `c` computes for device `j`. -/
def slab (c j : Dev nD) : FVec F S64x64 .bf16 :=
  half (j.val % 2 == 1) (pair m c ⟨j.val / 2, by have : j.val < 16 := j.isLt; omega⟩)

/-- The slab as it is stored in the scratch buffer, -/
def yv (c j : Dev nD) : FVec F S1x64x64 .bf16 := shapeCast S1x64x64 (slab m c j) shapeCasts_S64x64_S1x64x64
/-- and as it is read back out of it. -/
def lv64 (c j : Dev nD) : FVec F S64x64 .bf16 := shapeCast S64x64 (yv m c j) shapeCasts_S1x64x64_S64x64

/-- Device `p`'s result: row `64 * s + r` is row `r` of the slab device `s` computed for `p`. -/
def outFin (p : Dev nD) : (cc0_stg2_0 : Ref sig .tc).ty.Contents (Elt F) := fun i =>
  lv64 m ⟨(i (0 : Fin 2)).val / 64, by have h : (i (0 : Fin 2)).val < 1024 := (i (0 : Fin 2)).isLt; show _ < 16; omega⟩ p
    (fun a => match a with
      | ⟨0, _⟩ => ⟨(i (0 : Fin 2)).val % 64, Nat.mod_lt _ (by decide)⟩
      | ⟨1, _⟩ => ⟨(i (1 : Fin 2)).val, (i (1 : Fin 2)).isLt⟩)

theorem outFin_emb (p s : Dev nD) (x : S64x64.Idx) : outFin m p ((oBl s).view.emb x) = lv64 m s p x := by
  have h0 : (((oBl s).view.emb x (0 : Fin 2) : Fin _) : ℕ) = 64 * s.val + (x (0 : Fin 2)).val :=
    ValueKit.view_emb_slice_whole_unit_val cc0_stg2_0 _ _ _ x (0 : Fin 2)
  have h1 : (((oBl s).view.emb x (1 : Fin 2) : Fin _) : ℕ) = 0 + (x (1 : Fin 2)).val :=
    ValueKit.view_emb_slice_whole_unit_val cc0_stg2_0 _ _ _ x (1 : Fin 2)
  have hx : (x (0 : Fin 2)).val < 64 := (x (0 : Fin 2)).isLt
  have key : ∀ (s₁ : Dev nD) (x₁ : S64x64.Idx), s₁ = s → x₁ = x → lv64 m s₁ p x₁ = lv64 m s p x := by
    rintro _ _ rfl rfl; rfl
  refine key _ _ (Fin.ext ?_) (funext fun a => ?_)
  · show ((oBl s).view.emb x (0 : Fin 2)).val / 64 = s.val; omega
  · fin_cases a
    · exact Fin.ext (by show ((oBl s).view.emb x (0 : Fin 2)).val % 64 = (x (0 : Fin 2)).val; omega)
    · exact Fin.ext (by show ((oBl s).view.emb x (1 : Fin 2)).val = (x (1 : Fin 2)).val; omega)

/-! ## Blocks held -/

/-- Rows `64 * s …` of device `p`'s result buffer, held at `f`. -/
def oPts (p s : Dev nD) (f : Buf (Elt F) ((oBl s).view.loc (p : Thread nD τ))) : sProp 𝕄 :=
  (oBl s).view.loc (p : Thread nD τ) ↦[(oBl s).view.set]{fullShare} f
/-- Slab `j` of device `c`'s scratch buffer, held at `f`. -/
def yPts (c j : Dev nD) (f : Buf (Elt F) ((ySl j).view.loc (c : Thread nD τ))) : sProp 𝕄 :=
  (ySl j).view.loc (c : Thread nD τ) ↦[(ySl j).view.set]{fullShare} f

instance oPts_storable (p s : Dev nD) (f) : BI.Storable (upEmb : UEmb _ 𝕄) (oPts (F := F) p s f) := by
  unfold oPts; infer_instance
instance yPts_storable (c j : Dev nD) (f) : BI.Storable (upEmb : UEmb _ 𝕄) (yPts (F := F) c j f) := by
  unfold yPts; infer_instance

theorem ySl_set (j : Dev nD) : (ySl j).view.set = (yM.access (rY j)).set := View.set_reshape _ _

/-- The places of a row block, and of a slab. -/
def oSet (s : Dev nD) : Finset S1024x64.Idx := (oBl s).view.set
def ySet (j : Dev nD) : Finset S16x64x64.Idx := (ySl j).view.set

theorem mem_oSet (s : Dev nD) (i : S1024x64.Idx) :
    i ∈ oSet s ↔ ∀ a, (![64 * s.val, 0] : Fin 2 → ℕ) a ≤ (i a).val ∧ (i a).val < (![64 * s.val, 0] : Fin 2 → ℕ) a + S64x64.size a :=
  ValueKit.mem_set_slice_whole_iff cc0_stg2_0 (rO s) i Rect.mem_set_unit
theorem mem_ySet (j : Dev nD) (i : S16x64x64.Idx) :
    i ∈ ySet j ↔ ∀ a, (![j.val, 0, 0] : Fin 3 → ℕ) a ≤ (i a).val ∧ (i a).val < (![j.val, 0, 0] : Fin 3 → ℕ) a + S1x64x64.size a := by
  unfold ySet
  rw [ySl_set]
  exact ValueKit.mem_set_slice_whole_iff cc0_scratch0 (rY j) i Rect.mem_set_unit

/-- A slab held, as the loads and stores of the scratch buffer see it. -/
theorem yPts_access (c j : Dev nD) (f : Buf (Elt F) ((yM.access (rY j)).loc (c : Thread nD τ))) :
    (yPts (F := F) c j f : sProp 𝕄) = ((yM.access (rY j)).loc (c : Thread nD τ) ↦[(yM.access (rY j)).set]{fullShare} f) := by
  unfold yPts; rw [ySl_set]

/-- Reading a slab just written. -/
theorem y_read (j : Dev nD) (f : (yM.access (rY j)).ty.Contents (Elt F)) (w : FVec F S1x64x64 .bf16) :
    (yM.access (rY j)).read (Elt F) ((yM.access (rY j)).write (Elt F) f w Finset.univ) = w :=
  View.read_write_univ (v := yM.access (rY j)) (Val := Elt F) f w

theorem o_disjoint (s s' : Dev nD) (h : s ≠ s') : Disjoint (oSet s) (oSet s') := by
  rw [Finset.disjoint_left]
  intro i hi hi'
  have h1 := (mem_oSet s i).mp hi (0 : Fin 2)
  have h2 := (mem_oSet s' i).mp hi' (0 : Fin 2)
  have e1 : 64 * s.val ≤ (i (0 : Fin 2)).val ∧ (i (0 : Fin 2)).val < 64 * s.val + 64 := h1
  have e2 : 64 * s'.val ≤ (i (0 : Fin 2)).val ∧ (i (0 : Fin 2)).val < 64 * s'.val + 64 := h2
  exact h (Fin.ext (by omega))

theorem o_cover : Finset.univ.biUnion oSet = Finset.univ := by
  refine Finset.eq_univ_of_forall fun i => Finset.mem_biUnion.mpr ?_
  have hi : (i (0 : Fin 2)).val < 1024 := (i (0 : Fin 2)).isLt
  refine ⟨⟨(i (0 : Fin 2)).val / 64, by show _ < 16; omega⟩, Finset.mem_univ _, ?_⟩
  refine (mem_oSet _ i).mpr fun a => ?_
  fin_cases a
  · show 64 * ((i (0 : Fin 2)).val / 64) ≤ (i (0 : Fin 2)).val ∧ (i (0 : Fin 2)).val < 64 * ((i (0 : Fin 2)).val / 64) + 64; omega
  · exact ⟨Nat.zero_le _, by show (i (1 : Fin 2)).val < 0 + 64; have : (i (1 : Fin 2)).val < 64 := (i (1 : Fin 2)).isLt; omega⟩

theorem y_disjoint (j j' : Dev nD) (h : j ≠ j') : Disjoint (ySet j) (ySet j') := by
  rw [Finset.disjoint_left]
  intro i hi hi'
  have h1 := (mem_ySet j i).mp hi (0 : Fin 3)
  have h2 := (mem_ySet j' i).mp hi' (0 : Fin 3)
  have e1 : j.val ≤ (i (0 : Fin 3)).val ∧ (i (0 : Fin 3)).val < j.val + 1 := h1
  have e2 : j'.val ≤ (i (0 : Fin 3)).val ∧ (i (0 : Fin 3)).val < j'.val + 1 := h2
  exact h (Fin.ext (by omega))

theorem y_cover : Finset.univ.biUnion ySet = Finset.univ := by
  refine Finset.eq_univ_of_forall fun i => Finset.mem_biUnion.mpr ?_
  have hi : (i (0 : Fin 3)).val < 16 := (i (0 : Fin 3)).isLt
  refine ⟨⟨(i (0 : Fin 3)).val, hi⟩, Finset.mem_univ _, ?_⟩
  refine (mem_ySet _ i).mpr fun a => ?_
  fin_cases a
  · show (i (0 : Fin 3)).val ≤ (i (0 : Fin 3)).val ∧ (i (0 : Fin 3)).val < (i (0 : Fin 3)).val + 1; omega
  · exact ⟨Nat.zero_le _, by show (i (1 : Fin 3)).val < 0 + 64; have : (i (1 : Fin 3)).val < 64 := (i (1 : Fin 3)).isLt; omega⟩
  · exact ⟨Nat.zero_le _, by show (i (2 : Fin 3)).val < 0 + 64; have : (i (2 : Fin 3)).val < 64 := (i (2 : Fin 3)).isLt; omega⟩

/-- The result buffer held whole is its sixteen row blocks held, -/
theorem o_blocks (p : Dev nD) (f : Buf (Elt F) ((p : Thread nD τ).loc cc0_stg2_0)) :
    (((p : Thread nD τ).loc cc0_stg2_0) ↦{fullShare} f : sProp 𝕄) = bigSep Finset.univ fun s => oPts p s f :=
  Ring.pointsTo_blocks (ℓ := (p : Thread nD τ).loc cc0_stg2_0) oSet o_disjoint o_cover f

/-- and the scratch buffer likewise its sixteen slabs. -/
theorem y_blocks (c : Dev nD) (f : Buf (Elt F) ((c : Thread nD τ).loc cc0_scratch0)) :
    (((c : Thread nD τ).loc cc0_scratch0) ↦{fullShare} f : sProp 𝕄) = bigSep Finset.univ fun j => yPts c j f :=
  Ring.pointsTo_blocks (ℓ := (c : Thread nD τ).loc cc0_scratch0) ySet y_disjoint y_cover f

/-- Slabs held at some contents each are the scratch buffer held at some contents. -/
theorem y_join (c : Dev nD) (f₀ : Buf (Elt F) ((c : Thread nD τ).loc cc0_scratch0)) :
    (bigSep Finset.univ fun j => iprop(∃ f, yPts (F := F) c j f) : sProp 𝕄)
      ⊢ iprop(∃ f : Buf (Elt F) ((c : Thread nD τ).loc cc0_scratch0), ((c : Thread nD τ).loc cc0_scratch0) ↦{fullShare} f) :=
  Ring.pointsTo_blocks_join_exists (ℓ := (c : Thread nD τ).loc cc0_scratch0) ySet y_disjoint y_cover f₀

/-! ## The schedule -/

/-- What device `p`'s signal hands device `c`: the rows of `p`'s result that `c` fills. -/
def barPay (c p : Dev nD) : sProp 𝕄 := iprop(∃ f, oPts p c f)
/-- What device `s`'s copy hands device `c`: `c`'s rows of `s`, filled. -/
def recvPay (c s : Dev nD) : sProp 𝕄 := oPts c s (outFin m c)
/-- What the end of the copy of slab `j` hands back. -/
def sendPay (c j : Dev nD) : sProp 𝕄 := iprop(∃ f, yPts c j f)

/-- The duties of round 0: every other device signals a barrier cell; one copy fills a receive cell and one empties a
    send cell, except on the cell a device would use towards itself. -/
def dutiesOf (c : Dev nD) : Role → Finset (Dev nD)
  | .bar => Finset.univ.erase c
  | .send j => ({j} : Finset (Dev nD)).erase c
  | .recv s => ({s} : Finset (Dev nD)).erase c
  | .other => ∅

def amountOf : Role → ℕ
  | .bar => 1
  | _ => N

def payOf (c : Dev nD) (d : Dev nD) : Role → sProp 𝕄
  | .bar => barPay c d
  | .send j => sendPay c j
  | .recv s => recvPay m c s
  | .other => iprop(emp)

def Rd : Rounds.Schedule (GSem nD τ sig) (Dev nD) 𝕄 where
  duties g r := if r = 0 ∧ g.1.2 = .tc then dutiesOf g.1.1 (role g.2) else ∅
  unitless _ := False
  amount g _ _ := amountOf (role g.2)
  payload g _ d := payOf m g.1.1 d (role g.2)
  amount_pos g _ _ _ := by
    rcases role g.2 with _ | _ | _ | _
    · exact Nat.one_pos
    · exact N_pos
    · exact N_pos
    · exact N_pos

instance Rd_payload_storable (g : GSem nD τ sig) (r : ℕ) (d : Dev nD) :
    BI.Storable (upEmb : UEmb _ 𝕄) ((Rd (F := F) m).payload g r d) := by
  show BI.Storable upEmb (payOf m g.1.1 d (role g.2))
  rcases role g.2 with _ | _ | _ | _ <;> dsimp only [payOf] <;> (try unfold barPay) <;> (try unfold sendPay) <;>
    (try unfold recvPay) <;> infer_instance

theorem duties_bar (c : Dev nD) : (Rd (F := F) m).duties (barCell c) 0 = Finset.univ.erase c := by
  dsimp only [Rd]; rw [if_pos ⟨rfl, rfl⟩, role_bar]; rfl
theorem duties_send (c j : Dev nD) : (Rd (F := F) m).duties (sendCell c j) 0 = ({j} : Finset (Dev nD)).erase c := by
  dsimp only [Rd]; rw [if_pos ⟨rfl, rfl⟩, role_send]; rfl
theorem duties_recv (c s : Dev nD) : (Rd (F := F) m).duties (recvCell c s) 0 = ({s} : Finset (Dev nD)).erase c := by
  dsimp only [Rd]; rw [if_pos ⟨rfl, rfl⟩, role_recv]; rfl
theorem duties_later (g : GSem nD τ sig) : ∀ r, 1 ≤ r → (Rd (F := F) m).duties g r = ∅ :=
  fun r hr => by dsimp only [Rd]; rw [if_neg fun h => by omega]
theorem duties_send_self (c : Dev nD) : ∀ r, 0 ≤ r → (Rd (F := F) m).duties (sendCell c c) r = ∅ := fun r _ => by
  rcases Nat.eq_zero_or_pos r with rfl | hr
  · rw [duties_send]; exact Finset.erase_singleton c
  · exact duties_later m _ r hr
theorem duties_recv_self (c : Dev nD) : ∀ r, 0 ≤ r → (Rd (F := F) m).duties (recvCell c c) r = ∅ := fun r _ => by
  rcases Nat.eq_zero_or_pos r with rfl | hr
  · rw [duties_recv]; exact Finset.erase_singleton c
  · exact duties_later m _ r hr

theorem erase_ne {a c : Dev nD} (h : a ≠ c) : ({a} : Finset (Dev nD)).erase c = {a} :=
  Finset.erase_eq_of_notMem fun h' => h (Finset.mem_singleton.mp h').symm

theorem amount_bar (c d : Dev nD) : (Rd (F := F) m).amount (barCell c) 0 d = 1 := by dsimp only [Rd]; rw [role_bar]; rfl
theorem amount_send (c j d : Dev nD) : (Rd (F := F) m).amount (sendCell c j) 0 d = N := by dsimp only [Rd]; rw [role_send]; rfl
theorem amount_recv (c s d : Dev nD) : (Rd (F := F) m).amount (recvCell c s) 0 d = N := by dsimp only [Rd]; rw [role_recv]; rfl

theorem expect_bar (c : Dev nD) : (Rd (F := F) m).expect (barCell c) 0 = 15 := by
  unfold Schedule.expect Schedule.amountOf
  rw [duties_bar, Finset.sum_congr rfl fun d _ => amount_bar m c d, Finset.sum_const, Finset.card_erase_of_mem (Finset.mem_univ c),
    Finset.card_univ, smul_eq_mul, Nat.mul_one]
  rfl
theorem expect_send (c j : Dev nD) (h : j ≠ c) : (Rd (F := F) m).expect (sendCell c j) 0 = N := by
  unfold Schedule.expect Schedule.amountOf; rw [duties_send, erase_ne h, Finset.sum_singleton, amount_send]
theorem expect_recv (c s : Dev nD) (h : s ≠ c) : (Rd (F := F) m).expect (recvCell c s) 0 = N := by
  unfold Schedule.expect Schedule.amountOf; rw [duties_recv, erase_ne h, Finset.sum_singleton, amount_recv]

theorem payload_bar (c d : Dev nD) : (Rd (F := F) m).payload (barCell c) 0 d = barPay c d := by dsimp only [Rd]; rw [role_bar]; rfl
theorem payload_send (c j d : Dev nD) : (Rd (F := F) m).payload (sendCell c j) 0 d = sendPay c j := by
  dsimp only [Rd]; rw [role_send]; rfl
theorem payload_recv (c s d : Dev nD) : (Rd (F := F) m).payload (recvCell c s) 0 d = recvPay m c s := by
  dsimp only [Rd]; rw [role_recv]; rfl

theorem rest_bar (c : Dev nD) : bigSep ((Rd (F := F) m).duties (barCell c) 0 \ ∅) (fun d => (Rd (F := F) m).payload (barCell c) 0 d)
    = bigSep (Finset.univ.erase c) fun p => barPay c p := by
  rw [Finset.sdiff_empty, duties_bar]; exact bigSep_congr fun d _ => payload_bar m c d
theorem rest_send (c j : Dev nD) (h : j ≠ c) :
    bigSep ((Rd (F := F) m).duties (sendCell c j) 0 \ ∅) (fun d => (Rd (F := F) m).payload (sendCell c j) 0 d) = sendPay c j := by
  rw [Finset.sdiff_empty, duties_send, erase_ne h, bigSep_singleton, payload_send]
theorem rest_recv (c s : Dev nD) (h : s ≠ c) :
    bigSep ((Rd (F := F) m).duties (recvCell c s) 0 \ ∅) (fun d => (Rd (F := F) m).payload (recvCell c s) 0 d) = recvPay m c s := by
  rw [Finset.sdiff_empty, duties_recv, erase_ne h, bigSep_singleton, payload_recv]

/-! ## What a core owes, and the levels -/

/-- The copies device `c` has still to make, to the devices of `T`; -/
def owR (c : Dev nD) (T : Finset (Dev nD)) : CellTallies nD τ sig Unit := ∑ p ∈ T, tallyAt (recvCell p c) () N
/-- the signals it has still to send. -/
def owB (T : Finset (Dev nD)) : CellTallies nD τ sig Unit := ∑ p ∈ T, tallyAt (barCell p) () 1

/-- What device `c` owes at launch: a copy and a signal to every other device. -/
def O₀ (c : Dev nD) : CellTallies nD τ sig Unit := owR c (Finset.univ.erase c) + owB (Finset.univ.erase c)

theorem owR_take (c : Dev nD) {p : Dev nD} {T : Finset (Dev nD)} (h : p ∈ T) : owR c T = owR c (T.erase p) + tallyAt (recvCell p c) () N := by
  unfold owR; rw [Finset.sum_erase_add _ _ h]
theorem owB_take {p : Dev nD} {T : Finset (Dev nD)} (h : p ∈ T) : owB T = owB (T.erase p) + tallyAt (barCell p) () 1 := by
  unfold owB; rw [Finset.sum_erase_add _ _ h]

def L (g : GSem nD τ sig) : Finset Unit := if g.1.2 = .tc then {()} else ∅
/-- Receive cells above barrier cells above everything else. -/
def lvOf : Role → ℕ
  | .bar => 1
  | .recv _ => 2
  | _ => 0
def lv (g : GSem nD τ sig) (_ : Unit) : ℕ := lvOf (role g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c s : Dev nD) : lv (recvCell c s) () = 2 := by unfold lv; rw [role_recv]; rfl

/-- A sum of tallies is positive only on a cell of one of them. -/
theorem sum_tally_pos {f : Dev nD → GSem nD τ sig} {n : ℕ} {T : Finset (Dev nD)} {g : GSem nD τ sig} {u : Unit}
    (h : 0 < (∑ p ∈ T, tallyAt (f p) () n : CellTallies nD τ sig Unit) g u) : ∃ p ∈ T, g = f p := by
  induction T using Finset.induction_on with
  | empty => rw [Finset.sum_empty] at h; exact absurd h (Nat.lt_irrefl 0)
  | insert p T hp ih =>
    rw [Finset.sum_insert hp, Pi.add_apply, Finsupp.add_apply, tallyAt_apply] at h
    by_cases hg : g = f p ∧ u = ()
    · exact ⟨p, Finset.mem_insert_self _ _, hg.1⟩
    · rw [if_neg hg, Nat.zero_add] at h
      obtain ⟨p', hp', e⟩ := ih h
      exact ⟨p', Finset.mem_insert_of_mem hp', e⟩

theorem O₀_pos {c : Dev nD} {g : GSem nD τ sig} {u : Unit} (h : 0 < O₀ c g u) :
    (∃ p, g = recvCell p c) ∨ ∃ p, g = barCell p := by
  unfold O₀ at h
  rw [Pi.add_apply, Finsupp.add_apply] at h
  rcases Nat.eq_zero_or_pos (owR c (Finset.univ.erase c) g u) with h0 | h0
  · rw [h0, Nat.zero_add] at h
    obtain ⟨p, -, e⟩ := sum_tally_pos h
    exact Or.inr ⟨p, e⟩
  · obtain ⟨p, -, e⟩ := sum_tally_pos h0
    exact Or.inl ⟨p, e⟩

/-- The pipeline's own waits are below everything a core owes. -/
theorem mayWait_stage (c : Dev nD) (q : DmaSem sig) (hq : lvOf (role (.dma q)) = 0) (O : CellTallies nD τ sig Unit)
    (hO : O = O₀ c ∨ O = 0) : (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by rcases O₀_pos hg with ⟨p, rfl⟩ | ⟨p, rfl⟩ <;> exact Finset.mem_singleton_self _)
      (fun p hp => by rw [Finset.mem_singleton.mp hp]; exact hq.le)
      (fun g u hg => by
        rcases O₀_pos hg with ⟨p, rfl⟩ | ⟨p, rfl⟩
        · rw [lv_recv]; decide
        · rw [lv_bar]; decide)
  · rw [MayWait_zero]; iintro -; iempintro

/-- At the barrier wait a device owes copies only, whose receive cells are above the barrier cell. -/
theorem mayWait_bar (c : Dev nD) (T : Finset (Dev nD)) :
    (levAts L lv : sProp 𝕄) ⊢ MayWait (c : Thread nD τ) (.reg barS) () (owR c T) :=
  MayOwe.of_cut (L := L) (lev := lv) 1
    (fun p hp => by rw [Finset.mem_singleton.mp hp, L_tc]; exact Finset.mem_singleton_self _)
    (fun g u hg => by obtain ⟨p, -, rfl⟩ := sum_tally_pos hg; exact Finset.mem_singleton_self _)
    (fun p hp => by rw [Finset.mem_singleton.mp hp]; exact le_refl 1)
    (fun g u hg => by obtain ⟨p, -, rfl⟩ := sum_tally_pos hg; rw [lv_recv]; decide)

/-! ## One of many -/

theorem take_one {I : Type} [DecidableEq I] {s : Finset I} {i : I} (h : i ∈ s) {Φ : I → sProp 𝕄} :
    (bigSep s Φ : sProp 𝕄) ⊢ Φ i := bigSep_elim h
theorem take_out {I : Type} [DecidableEq I] {s : Finset I} {i : I} (h : i ∈ s) {Φ : I → sProp 𝕄} :
    (bigSep s Φ : sProp 𝕄) = iprop(Φ i ∗ bigSep (s.erase i) Φ) := bigSep_erase h
/-- A family changed at one member: that member is changed, the others may stay. -/
theorem change_one {I : Type} [Fintype I] [DecidableEq I] (i : I) {Φ Ψ : I → sProp 𝕄} (h : ∀ k, k ≠ i → Φ k = Ψ k) :
    (bigSep Finset.univ Φ : sProp 𝕄) = iprop(Φ i ∗ bigSep (Finset.univ.erase i) Ψ) := by
  rw [take_out (Finset.mem_univ i), bigSep_congr fun k hk => h k (Finset.ne_of_mem_erase hk)]

/-! ## The invariants every step opens -/

/-- Every cell's invariant, under the names `K`, and that every cell has reached round 0. -/
def records (K : Ck → ℕ) : sProp 𝕄 :=
  iprop((bigSep Finset.univ fun ck : Ck => cellInv ER (Rd m) (K ck) (kcell ck))
    ∗ bigSep Finset.univ fun ck : Ck => reached ER (kcell ck) 0)

instance records_persistent (K : Ck → ℕ) : BI.Persistent (records m K) := by unfold records; infer_instance

theorem inv_at (K : Ck → ℕ) (ck : Ck) : (records m K : sProp 𝕄) ⊢ cellInv ER (Rd m) (K ck) (kcell ck) := by
  unfold records
  iintro ⟨H, -⟩
  iapply (take_one (Finset.mem_univ ck) (Φ := fun ck : Ck => cellInv ER (Rd m) (K ck) (kcell ck))); iexact H
theorem reached_at (K : Ck → ℕ) (ck : Ck) : (records m K : sProp 𝕄) ⊢ reached ER (kcell ck) 0 := by
  unfold records
  iintro ⟨-, H⟩
  iapply (take_one (Finset.mem_univ ck) (Φ := fun ck : Ck => reached ER (kcell ck) 0)); iexact H

end Cert.A2A

end
-- ==== Proof.Steps.lean ====
/-
# The all-to-all kernel: one lemma for each kind of step

What a device holds between two operations is named once: `Sg` while it signals, `St` afterwards. `St` follows the
device through its copies by one number: slab `j` is stored at `3 j`, sent at `3 j + 1` (or, when it is the device's
own, copied at `3 j + 2`), and its copy is waited for at `48 + j`. A second number counts the receive waits. Every step
lemma is stated for every device and every slab.
-/
module

public import proofs.«01_k».proof.Proof.Common

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Ck → ℕ)

abbrev 𝒱₀ : Variants := Variants.none

/-- The weakest precondition of a program on device `c`'s core. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The states -/

def Pers : sProp 𝕄 := iprop(records m K ∗ levAts L lv)
instance Pers_persistent : BI.Persistent (Pers m K) := by unfold Pers; infer_instance

/-- The core's debts, whatever waits it has recorded. -/
def owe (c : Dev nD) (O : CellTallies nD τ sig Unit) : sProp 𝕄 := iprop(∃ W, owes (c : Thread nD τ) O W)

/-- The staged `x` and `w`. -/
def ins (c : Dev nD) : sProp 𝕄 :=
  iprop((xM.view.loc (c : Thread nD τ) ↦[Finset.univ]{fullShare} xstg m c) ∗ (wM.view.loc (c : Thread nD τ) ↦[Finset.univ]{fullShare} wstg m c))

/-- What lets device `c` copy slab `j` out: nothing for its own. -/
def toks (c j : Dev nD) : sProp 𝕄 :=
  if j = c then iprop(emp) else iprop(dutyTok ER (recvCell j c) 0 c ∗ dutyTok ER (sendCell c j) 0 j)

/-- Slab `j` before the barrier: -/
def slabStart (c j : Dev nD) : sProp 𝕄 :=
  iprop((∃ f, yPts (F := F) c j f) ∗ atPos ER (sendCell c j) 0 ∅ 0 ∗ toks c j)
/-- after it, with the rows it is to fill: -/
def frsh (c j : Dev nD) : sProp 𝕄 :=
  iprop((∃ f, yPts (F := F) c j f) ∗ atPos ER (sendCell c j) 0 ∅ 0 ∗ toks c j ∗ ∃ f, oPts (F := F) j c f)
/-- stored: -/
def stor (c j : Dev nD) : sProp 𝕄 :=
  iprop((∃ f : Buf (Elt F) ((yM.access (rY j)).loc (c : Thread nD τ)), ⌜(yM.access (rY j)).read (Elt F) f = yv m c j⌝ ∗ yPts (F := F) c j f)
    ∗ atPos ER (sendCell c j) 0 ∅ 0 ∗ toks c j ∗ ∃ f, oPts (F := F) j c f)
/-- the device's own, copied: -/
def own (c : Dev nD) : sProp 𝕄 :=
  iprop((∃ f, yPts (F := F) c c f) ∗ atPos ER (sendCell c c) 0 ∅ 0 ∗ oPts c c (outFin m c))
/-- on its way: -/
def sent (c j : Dev nD) : sProp 𝕄 :=
  iprop(atPos ER (sendCell c j) 0 ∅ 0 ∗ cred (tallyAt (sendCell c j) () N))
/-- and its buffer back. -/
def back (c j : Dev nD) : sProp 𝕄 :=
  iprop((∃ f, yPts (F := F) c j f) ∗ atPos ER (sendCell c j) 1 ∅ 0)

/-- Slab `j` of device `c` at time `t`. -/
def slabAt (c : Dev nD) (t : ℕ) (j : Dev nD) : sProp 𝕄 :=
  if t ≤ 3 * j.val then frsh c j
  else if j = c then (if t ≤ 3 * j.val + 2 then stor m c j else own m c)
  else if t ≤ 3 * j.val + 1 then stor m c j
  else if t ≤ 48 + j.val then sent c j
  else back c j

/-- Device `s`'s rows of device `c`'s result, once `n` receive waits are done. -/
def recvAt (c : Dev nD) (n : ℕ) (s : Dev nD) : sProp 𝕄 :=
  if s = c then iprop(atPos ER (recvCell c s) 0 ∅ 0)
  else if n ≤ s.val then iprop(cred (tallyAt (recvCell c s) () N) ∗ atPos ER (recvCell c s) 0 ∅ 0)
  else iprop(oPts c s (outFin m c) ∗ atPos ER (recvCell c s) 1 ∅ 0)

/-- The devices still to be signalled after `n` signals, -/
def rem (c : Dev nD) (n : ℕ) : Finset (Dev nD) := Finset.univ.filter fun p => n < (p.val + 16 - c.val) % 16
/-- and those still to be sent to at time `t`. -/
def pend (c : Dev nD) (t : ℕ) : Finset (Dev nD) := (Finset.univ.erase c).filter fun p => t < 3 * p.val + 2

/-- Device `c` after `n` signals. -/
def Sg (c : Dev nD) (n : ℕ) : sProp 𝕄 :=
  iprop(Pers m K ∗ owe c (owR c (Finset.univ.erase c) + owB (rem c n)) ∗ ins m c
    ∗ (bigSep (rem c n) fun p => iprop(dutyTok ER (barCell p) 0 c ∗ barPay (F := F) p c))
    ∗ cred (tallyAt (barCell c) () 15) ∗ atPos ER (barCell c) 0 ∅ 0 ∗ barPay (F := F) c c
    ∗ bigSep Finset.univ (slabStart (F := F) c) ∗ bigSep Finset.univ (recvAt m c 0))

/-- Device `c` past the barrier, at time `t`, after `n` receive waits. -/
def St (c : Dev nD) (t n : ℕ) : sProp 𝕄 :=
  iprop(Pers m K ∗ owe c (owR c (pend c t)) ∗ ins m c ∗ atPos ER (barCell c) 1 ∅ 0
    ∗ bigSep Finset.univ (slabAt m c t) ∗ bigSep Finset.univ (recvAt m c n))

/-! ## Counting -/

theorem rem_zero (c : Dev nD) : rem c 0 = Finset.univ.erase c := by
  ext p
  have hp : p.val < 16 := p.isLt
  have hc : c.val < 16 := c.isLt
  simp only [rem, Finset.mem_filter, Finset.mem_univ, true_and, Finset.mem_erase, and_true, ne_eq, Fin.ext_iff]
  omega
theorem rem_end (c : Dev nD) : rem c 15 = ∅ := by
  ext p
  simp only [rem, Finset.mem_filter, Finset.mem_univ, true_and, Finset.notMem_empty, iff_false]
  omega
theorem rem_step (c p : Dev nD) (n : ℕ) (hp : p.val = (c.val + (n + 1)) % 16) (hn : n < 15) :
    p ∈ rem c n ∧ (rem c n).erase p = rem c (n + 1) ∧ p ≠ c := by
  have hc : c.val < 16 := c.isLt
  refine ⟨?_, ?_, ?_⟩
  · simp only [rem, Finset.mem_filter, Finset.mem_univ, true_and]; omega
  · ext q
    have hq : q.val < 16 := q.isLt
    simp only [rem, Finset.mem_filter, Finset.mem_univ, true_and, Finset.mem_erase, ne_eq, Fin.ext_iff]
    omega
  · intro h; rw [h] at hp; omega

theorem pend_zero (c : Dev nD) : pend c 0 = Finset.univ.erase c := by
  ext p; simp only [pend, Finset.mem_filter, and_iff_left_iff_imp]; intro _; omega
theorem pend_late (c : Dev nD) (t : ℕ) (ht : 48 ≤ t) : pend c t = ∅ := by
  ext p
  have hp : p.val < 16 := p.isLt
  simp only [pend, Finset.mem_filter, Finset.notMem_empty, iff_false]
  omega
theorem pend_same (c : Dev nD) (t t' : ℕ) (h : ∀ p : Dev nD, p ≠ c → (t < 3 * p.val + 2 ↔ t' < 3 * p.val + 2)) : pend c t = pend c t' := by
  ext p
  simp only [pend, Finset.mem_filter, Finset.mem_erase, Finset.mem_univ, and_true]
  exact and_congr_right fun hp => h p hp
theorem pend_send (c j : Dev nD) (h : j ≠ c) :
    j ∈ pend c (3 * j.val + 1) ∧ (pend c (3 * j.val + 1)).erase j = pend c (3 * j.val + 2) := by
  refine ⟨?_, ?_⟩
  · simp only [pend, Finset.mem_filter, Finset.mem_erase, Finset.mem_univ, and_true]; exact ⟨h, by omega⟩
  · ext p
    simp only [pend, Finset.mem_filter, Finset.mem_erase, Finset.mem_univ, and_true, ne_eq, Fin.ext_iff]
    omega

theorem owR_empty (c : Dev nD) : owR c ∅ = 0 := Finset.sum_empty
theorem owB_empty : owB ∅ = 0 := Finset.sum_empty

/-- A slab is in the same state at two times that lie on the same side of each of its turning points. -/
theorem slabAt_same (c : Dev nD) (t t' : ℕ) (j : Dev nD) (h0 : t ≤ 3 * j.val ↔ t' ≤ 3 * j.val)
    (h1 : j = c → (t ≤ 3 * j.val + 2 ↔ t' ≤ 3 * j.val + 2))
    (h2 : j ≠ c → ((t ≤ 3 * j.val + 1 ↔ t' ≤ 3 * j.val + 1) ∧ (t ≤ 48 + j.val ↔ t' ≤ 48 + j.val))) :
    slabAt m c t j = slabAt m c t' j := by
  unfold slabAt
  by_cases hj : j = c
  · simp only [if_pos hj, h0, h1 hj]
  · simp only [if_neg hj, h0, (h2 hj).1, (h2 hj).2]

theorem slabAt_frsh (c j : Dev nD) : slabAt m c (3 * j.val) j = frsh c j := by
  unfold slabAt; rw [if_pos (le_refl _)]
theorem slabAt_stor (c j : Dev nD) : slabAt m c (3 * j.val + 1) j = stor m c j := by
  unfold slabAt; rw [if_neg (by omega)]
  by_cases hj : j = c
  · rw [if_pos hj, if_pos (by omega)]
  · rw [if_neg hj, if_pos (by omega)]
theorem slabAt_sent (c j : Dev nD) (h : j ≠ c) : slabAt m c (3 * j.val + 2) j = sent c j := by
  have hj : j.val < 16 := j.isLt
  unfold slabAt; rw [if_neg (by omega), if_neg h, if_neg (by omega), if_pos (by omega)]
theorem slabAt_own_before (c : Dev nD) : slabAt m c (3 * c.val + 2) c = stor m c c := by
  unfold slabAt; rw [if_neg (by omega), if_pos rfl, if_pos (by omega)]
theorem slabAt_own (c : Dev nD) : slabAt m c (3 * c.val + 3) c = own m c := by
  unfold slabAt; rw [if_neg (by omega), if_pos rfl, if_neg (by omega)]
theorem slabAt_wait (c j : Dev nD) (h : j ≠ c) : slabAt m c (48 + j.val) j = sent c j := by
  have hj : j.val < 16 := j.isLt
  unfold slabAt; rw [if_neg (by omega), if_neg h, if_neg (by omega), if_pos (by omega)]
theorem slabAt_back (c j : Dev nD) (h : j ≠ c) : slabAt m c (48 + j.val + 1) j = back c j := by
  have hj : j.val < 16 := j.isLt
  unfold slabAt; rw [if_neg (by omega), if_neg h, if_neg (by omega), if_neg (by omega)]

/-! ## Opening a state at one slab -/

theorem St_open (c j : Dev nD) (t t' n : ℕ) (h : ∀ k, k ≠ j → slabAt m c t k = slabAt m c t' k) :
    St m K c t n ⊢ iprop(Pers m K ∗ owe c (owR c (pend c t)) ∗ slabAt m c t j
      ∗ ((owe c (owR c (pend c t')) ∗ slabAt m c t' j) -∗ St m K c t' n)) := by
  unfold St
  rw [change_one j h, take_out (Φ := slabAt m c t') (Finset.mem_univ j)]
  iintro ⟨#P, HO, Hin, Hbar, ⟨Hj, Hrest⟩, Hr⟩
  isplitr; · iexact P
  isplitl [HO]; · iexact HO
  isplitl [Hj]; · iexact Hj
  iintro ⟨HO, Hj⟩
  isplitr; · iexact P
  isplitl [HO]; · iexact HO
  isplitl [Hin]; · iexact Hin
  isplitl [Hbar]; · iexact Hbar
  isplitl [Hj Hrest]
  · isplitl [Hj]; · iexact Hj
    iexact Hrest
  iexact Hr

theorem St_open_ins (c : Dev nD) (t n : ℕ) : St m K c t n ⊢ iprop(ins m c ∗ (ins m c -∗ St m K c t n)) := by
  unfold St
  iintro ⟨#P, HO, Hin, Hrest⟩
  isplitl [Hin]; · iexact Hin
  iintro Hin
  isplitr; · iexact P
  isplitl [HO]; · iexact HO
  isplitl [Hin]; · iexact Hin
  iexact Hrest

/-- A time that passes without a step. -/
theorem St_skip (c : Dev nD) (t t' n : ℕ) (hp : pend c t = pend c t') (h : ∀ k, slabAt m c t k = slabAt m c t' k) :
    St m K c t n = St m K c t' n := by
  unfold St; rw [hp, bigSep_congr fun k _ => h k]

theorem others_store (c j : Dev nD) : ∀ k, k ≠ j → slabAt m c (3 * j.val) k = slabAt m c (3 * j.val + 1) k := fun k hk => by
  have hj : j.val < 16 := j.isLt
  have hk' : k.val ≠ j.val := fun e => hk (Fin.ext e)
  exact slabAt_same m c _ _ k (by omega) (fun _ => by omega) fun _ => ⟨by omega, by omega⟩
theorem others_send (c j : Dev nD) : ∀ k, (k ≠ j ∨ k = c) → slabAt m c (3 * j.val + 1) k = slabAt m c (3 * j.val + 2) k := fun k hk => by
  have hj : j.val < 16 := j.isLt
  have hk' : k ≠ c → k.val ≠ j.val := fun h e => (hk.resolve_right h) (Fin.ext e)
  refine slabAt_same m c _ _ k (by omega) (fun _ => by omega) fun h => ?_
  have := hk' h
  exact ⟨by omega, by omega⟩
theorem others_own (c j : Dev nD) : ∀ k, (k ≠ j ∨ k ≠ c) → slabAt m c (3 * j.val + 2) k = slabAt m c (3 * j.val + 3) k := fun k hk => by
  have hj : j.val < 16 := j.isLt
  refine slabAt_same m c _ _ k (by omega) (fun h => ?_) fun _ => ⟨by omega, by omega⟩
  have hk' : k.val ≠ j.val := fun e => (hk.resolve_right fun h' => h' h) (Fin.ext e)
  omega
theorem others_wait (c j : Dev nD) : ∀ k, (k ≠ j ∨ k = c) → slabAt m c (48 + j.val) k = slabAt m c (48 + j.val + 1) k := fun k hk => by
  have hj : j.val < 16 := j.isLt
  have hkk : k.val < 16 := k.isLt
  have hk' : k ≠ c → k.val ≠ j.val := fun h e => (hk.resolve_right h) (Fin.ext e)
  refine slabAt_same m c _ _ k (by omega) (fun _ => by omega) fun h => ?_
  have := hk' h
  exact ⟨by omega, by omega⟩

theorem pend_store (c j : Dev nD) : pend c (3 * j.val) = pend c (3 * j.val + 1) := pend_same c _ _ fun p _ => by omega
theorem pend_send_self (c : Dev nD) : pend c (3 * c.val + 1) = pend c (3 * c.val + 2) := pend_same c _ _ fun p hp => by
  have : p.val ≠ c.val := fun e => hp (Fin.ext e)
  omega
theorem pend_own (c j : Dev nD) : pend c (3 * j.val + 2) = pend c (3 * j.val + 3) := pend_same c _ _ fun p _ => by omega

/-! ## Filled rows -/

/-- Rows written with the slab meant for them hold the final result there. -/
theorem o_filled (p s : Dev nD) (f : Buf (Elt F) ((oBl s).view.loc (p : Thread nD τ))) (w : FVec F S64x64 .bf16) (hw : w = lv64 m s p) :
    (oPts (F := F) p s ((oBl s).view.write (Elt F) f w Finset.univ)) = oPts p s (outFin m p) := by
  subst hw
  unfold oPts
  refine pointsTo_congr fun i hi => ?_
  obtain ⟨x, -, rfl⟩ := Finset.mem_map.mp hi
  rw [View.write_emb_of_mem _ _ (Finset.mem_univ x), outFin_emb]
  rfl

/-! ## The steps -/

/-- The load of `x`. -/
theorem step_loadx {α : Type} {Q : α → sProp 𝕄} {c : Dev nD} {t n : ℕ} {hl} {k : Vec F S64x1024 .bf16 → Prog (TpuEff nD τ sig (Elt F) Λ₀ .tc) α}
    (hk : St m K c t n ⊢ WP c (k (xval m c)) Q) :
    St m K c t n ⊢ WP c (.op (.load xM rX.toLoadRect hl) k) Q := by
  refine (St_open_ins m K c t n).trans ?_
  unfold ins
  iintro ⟨⟨Hx, Hw⟩, Hback⟩
  iapply (wp_load 𝒱₀ (c : Thread nD τ) none Set.univ (m := xM) (Finset.subset_univ _)) $$ [Hx]
  · iexact Hx
  iintro Hx
  iapply hk
  iapply Hback
  isplitl [Hx]; · iexact Hx
  iexact Hw

/-- The load of a column block of `w`. -/
theorem step_loadw {α : Type} {Q : α → sProp 𝕄} {c : Dev nD} (q : Fin 8) {t n : ℕ} {off : Fin 2 → ℕ} {inb} (hoff : off = ![0, 128 * q.val]) {hl}
    {k : Vec F S1024x128 .bf16 → Prog (TpuEff nD τ sig (Elt F) Λ₀ .tc) α}
    (hk : St m K c t n ⊢ WP c (k (wval m c q)) Q) :
    St m K c t n ⊢ WP c (.op (.load wM (Rect.unit (s := S1024x1024) off S1024x128.size inb).toLoadRect hl) k) Q := by
  subst hoff
  refine (St_open_ins m K c t n).trans ?_
  unfold ins
  iintro ⟨⟨Hx, Hw⟩, Hback⟩
  iapply (wp_load 𝒱₀ (c : Thread nD τ) none Set.univ (m := wM) (Finset.subset_univ _)) $$ [Hw]
  · iexact Hw
  iintro Hw
  iapply hk
  iapply Hback
  isplitl [Hx]; · iexact Hx
  iexact Hw

/-- The load of a slab before it is stored; what it reads is not used. -/
theorem step_loady {α : Type} {Q : α → sProp 𝕄} {c : Dev nD} (j : Dev nD) {n : ℕ} {off : Fin 3 → ℕ} {inb} (hoff : off = ![j.val, 0, 0]) {hl}
    {k : Vec F S1x64x64 .bf16 → Prog (TpuEff nD τ sig (Elt F) Λ₀ .tc) α}
    (hk : ∀ v, St m K c (3 * j.val) n ⊢ WP c (k v) Q) :
    St m K c (3 * j.val) n ⊢ WP c (.op (.load yM (Rect.unit (s := S16x64x64) off S1x64x64.size inb).toLoadRect hl) k) Q := by
  subst hoff
  refine (St_open m K c j (3 * j.val) (3 * j.val) n fun _ _ => rfl).trans ?_
  rw [slabAt_frsh]
  unfold frsh
  simp only [yPts_access]
  iintro ⟨#P, HO, ⟨⟨%f, Hy⟩, Hs⟩, Hback⟩
  iapply (wp_load_rect 𝒱₀ (c : Thread nD τ) none Set.univ (m := yM) (r := rY j) (S := (yM.access (rY j)).set) (Finset.Subset.refl _)) $$ [Hy]
  · iexact Hy
  iintro Hy
  iapply (hk _)
  iapply Hback
  isplitl [HO]; · iexact HO
  isplitl [Hy]; · iexists f; iexact Hy
  iexact Hs

/-- The store of a slab. -/
theorem step_store {α : Type} {Q : α → sProp 𝕄} {c : Dev nD} (j : Dev nD) {n : ℕ} {off : Fin 3 → ℕ} {inb} (hoff : off = ![j.val, 0, 0]) {v : FVec F S1x64x64 .bf16} (hv : v = yv m c j)
    {hx} {hm} {k : PUnit → Prog (TpuEff nD τ sig (Elt F) Λ₀ .tc) α}
    (hk : St m K c (3 * j.val + 1) n ⊢ WP c (k ⟨⟩) Q) :
    St m K c (3 * j.val) n
      ⊢ WP c (.op (.store yM (Rect.unit (s := S16x64x64) off S1x64x64.size inb) v Finset.univ hx hm) k) Q := by
  subst hoff hv
  refine (St_open m K c j (3 * j.val) (3 * j.val + 1) n (others_store m c j)).trans ?_
  rw [slabAt_frsh, slabAt_stor, pend_store]
  unfold frsh stor
  simp only [yPts_access]
  iintro ⟨#P, HO, ⟨⟨%f, Hy⟩, Hs⟩, Hback⟩
  iapply (wp_store 𝒱₀ (c : Thread nD τ) none Set.univ (m := yM) (r := rY j) (Mk := Finset.univ) (S := (yM.access (rY j)).set)
    (Finset.Subset.refl _)) $$ [Hy]
  · iexact Hy
  iintro Hy
  iapply hk
  iapply Hback
  isplitl [HO]; · iexact HO
  isplitl [Hy]
  · iexists ((yM.access (rY j)).write (Elt F) f (yv m c j) Finset.univ)
    isplitr
    · ipureintro; exact y_read j f (yv m c j)
    · iexact Hy
  iexact Hs

/-- The copy of a slab to another device. -/
theorem step_send {α : Type} {Q : α → sProp 𝕄} {c : Dev nD} (j : Dev nD) {n : ℕ} {cond : BitVec 1} (hc : cond = 1#1 ↔ j ≠ c) {dev : cond = 1#1 → Dev nD} (hdev : ∀ h, dev h = j)
    {offS : Fin 1 → ℕ} {inbS} (hoffS : offS = ![j.val]) {offR : Fin 1 → ℕ} {inbR : cond = 1#1 → _} (hoffR : offR = ![c.val])
    {offY : Fin 3 → ℕ} {inbY} (hoffY : offY = ![j.val, 0, 0]) {offO : Fin 2 → ℕ} {inbO : cond = 1#1 → _} (hoffO : offO = ![64 * c.val, 0])
    {hsc : ∀ _, _} {hsrc : ∀ _, _} {hdst : ∀ _, _} {hsem : ∀ _, _} {k : Prog (TpuEff nD τ sig (Elt F) Λ₀ .tc) α}
    (hk : St m K c (3 * j.val + 2) n ⊢ WP c k Q) :
    St m K c (3 * j.val + 1) n
      ⊢ WP c (if h : cond = 1#1 then
          .op (.enqueueDma ((yM.slice (Rect.unit (s := S16x64x64) offY S1x64x64.size inbY) (fun _ => rfl)).squeeze S64x64 squeezes_S1x64x64_S64x64)
            (.remote (Dev.tc (dev h)) (oM.slice (Rect.unit (s := S1024x64) offO S64x64.size (inbO h)) (fun _ => rfl))
              (.dma ((cc0_scratch1.slice (Rect.unit (s := S16) offS S1.size inbS)).squeeze S_ squeezes_S1_S_).sem) (hsc h))
            (.dma ((cc0_scratch2.slice (Rect.unit (s := S16) offR S1.size (inbR h))).squeeze S_ squeezes_S1_S_).sem) (hsrc h) (hdst h) (hsem h))
            (fun _ => k)
        else k) Q := by
  subst hoffS hoffR hoffY hoffO
  obtain rfl : dev = fun _ => j := funext hdev
  by_cases h : cond = 1#1
  · rw [dif_pos h]
    have hj : j ≠ c := hc.mp h
    refine (St_open m K c j (3 * j.val + 1) (3 * j.val + 2) n fun k hk => others_send m c j k (Or.inl hk)).trans ?_
    rw [slabAt_stor, slabAt_sent m c j hj, ← (pend_send c j hj).2, owR_take c (pend_send c j hj).1]
    unfold stor sent yPts toks oPts owe
    rw [if_neg hj]
    iintro ⟨#P, ⟨%W, HO⟩, ⟨⟨%f, %hf, Hy⟩, Hat, ⟨Htr, Hts⟩, ⟨%fo, Ho⟩⟩, Hback⟩
    iapply (Rounds.wp_send_pointsTo 𝒱₀ ER (Rd m) (c : Thread nD τ) none (c' := (j : Thread nD τ)) (src := ySl j) (dst := oBl c)
      (sS := .dma (sendS j)) (sem := .dma (recvS c)) (κ₁ := K (c, .inr (.inl j))) (κ₂ := K (j, .inr (.inr c))) (r₁ := 0) (r₂ := 0) (d₁ := j) (d₂ := c)
      (q := fullShare) (fs := f) (fd := fo)
      (by rw [duties_send, erase_ne hj]; exact Finset.mem_singleton_self _)
      (by rw [duties_recv, erase_ne (Ne.symm hj)]; exact Finset.mem_singleton_self _)
      () () N (N_o c) (amount_send m c j j) (amount_recv m j c c) (owR c ((pend c (3 * j.val + 1)).erase j)) rfl
      (by rw [payload_send]; unfold sendPay yPts; iintro H; iexists f; iexact H)
      (by
        rw [payload_recv]; unfold recvPay
        exact Entails.of_eq (o_filled m j c fo _ (by
          show shapeCast S64x64 ((yM.access (rY j)).read (Elt F) f) shapeCasts_S1x64x64_S64x64 = _
          rw [hf]; rfl)))) $$ [HO Hy Ho Htr Hts]
    · unfold Pers
      icases P with ⟨#Hrec, -⟩
      isplitr; · iapply (inv_at m K (c, .inr (.inl j))); iexact Hrec
      isplitr; · iapply (inv_at m K (j, .inr (.inr c))); iexact Hrec
      isplitl [Hy]; · iexact Hy
      isplitl [Ho]; · iexact Ho
      isplitl [HO]; · iexact HO
      isplitl [Hts]; · iexact Hts
      isplitr; · iapply (reached_at m K (c, .inr (.inl j))); iexact Hrec
      isplitl [Htr]; · iexact Htr
      iapply (reached_at m K (j, .inr (.inr c))); iexact Hrec
    iintro ⟨Hcr, HO⟩
    iapply hk
    iapply Hback
    isplitl [HO]; · iexists W; iexact HO
    isplitl [Hat]; · iexact Hat
    iexact Hcr
  · rw [dif_neg h]
    have hj : j = c := by by_contra h'; exact h (hc.mpr h')
    subst hj
    exact (Entails.of_eq (St_skip m K j _ _ n (pend_send_self j) fun k => others_send m j j k (by
      by_cases hk : k = j
      · exact Or.inr hk
      · exact Or.inl hk))).trans hk

/-- The copy of the device's own slab. -/
theorem step_own {α : Type} {Q : α → sProp 𝕄} {c : Dev nD} (j : Dev nD) {n : ℕ} {cond : BitVec 1} (hc : cond = 1#1 ↔ j = c)
    {offY : Fin 3 → ℕ} {inbY} (hoffY : offY = ![j.val, 0, 0]) {offO : Fin 2 → ℕ} {inbO : cond = 1#1 → _} (hoffO : offO = ![64 * c.val, 0])
    {pay : Vec F S1x64x64 .bf16 → FVec F S64x64 .bf16} (hpay : ∀ v, pay v = shapeCast S64x64 v shapeCasts_S1x64x64_S64x64)
    {hl : ∀ _, _} {hl' : ∀ _, _} {hx : ∀ _, _} {hm : ∀ _, _} {k : Prog (TpuEff nD τ sig (Elt F) Λ₀ .tc) α}
    (hk : St m K c (3 * j.val + 3) n ⊢ WP c k Q) :
    St m K c (3 * j.val + 2) n
      ⊢ WP c (if h : cond = 1#1 then
          .op (.load yM (Rect.unit (s := S16x64x64) offY S1x64x64.size inbY).toLoadRect (hl h)) (fun v =>
          .op (.load oM (Rect.unit (s := S1024x64) offO S64x64.size (inbO h)).toLoadRect (hl' h)) (fun _ =>
          .op (.store oM (Rect.unit (s := S1024x64) offO S64x64.size (inbO h)) (pay v) Finset.univ (hx h) (hm h)) (fun _ => k)))
        else k) Q := by
  subst hoffY hoffO
  by_cases h : cond = 1#1
  · rw [dif_pos h]
    have hj : j = c := hc.mp h
    subst hj
    refine (St_open m K j j (3 * j.val + 2) (3 * j.val + 3) n fun k hk => others_own m j j k (Or.inl hk)).trans ?_
    rw [slabAt_own_before, slabAt_own, ← pend_own]
    unfold stor own
    simp only [yPts_access]
    iintro ⟨#P, HO, ⟨⟨%f, %hf, Hy⟩, Hat, -, ⟨%fo, Ho⟩⟩, Hback⟩
    iapply (wp_load_rect 𝒱₀ (j : Thread nD τ) none Set.univ (m := yM) (r := rY j) (S := (yM.access (rY j)).set) (Finset.Subset.refl _)) $$ [Hy]
    · iexact Hy
    iintro Hy
    rw [hf, hpay]
    unfold oPts
    iapply (wp_load_rect 𝒱₀ (j : Thread nD τ) none Set.univ (m := oM) (r := rO j) (S := (oBl j).view.set) (Finset.Subset.refl _)) $$ [Ho]
    · iexact Ho
    iintro Ho
    iapply (wp_store 𝒱₀ (j : Thread nD τ) none Set.univ (m := oM) (r := rO j) (Mk := Finset.univ) (S := (oBl j).view.set)
      (Finset.Subset.refl _)) $$ [Ho]
    · iexact Ho
    iintro Ho
    iapply hk
    iapply Hback
    isplitl [HO]; · iexact HO
    isplitl [Hy]; · iexists f; iexact Hy
    isplitl [Hat]; · iexact Hat
    rw [show ((oBl j).view.loc (j : Thread nD τ) ↦[(oBl j).view.set]{fullShare} outFin m j : sProp 𝕄)
      = oPts j j ((oBl j).view.write (Elt F) fo (lv64 m j j) Finset.univ) from (o_filled m j j fo _ rfl).symm]
    unfold oPts
    iexact Ho
  · rw [dif_neg h]
    have hj : j ≠ c := fun h' => h (hc.mpr h')
    exact (Entails.of_eq (St_skip m K c _ _ n (pend_own c j) fun k => others_own m c j k (by
      by_cases hk : k = j
      · exact Or.inr (hk ▸ hj)
      · exact Or.inl hk))).trans hk

/-- The wait for the end of the copy of a slab. -/
theorem step_waitS {α : Type} {Q : α → sProp 𝕄} {c : Dev nD} (j : Dev nD) {n : ℕ} {cond : BitVec 1} (hc : cond = 1#1 ↔ j ≠ c)
    {offS : Fin 1 → ℕ} {inbS} (hoffS : offS = ![j.val])
    {offY : Fin 3 → ℕ} {inbY} (hoffY : offY = ![j.val, 0, 0]) {offO : Fin 2 → ℕ} {inbO : cond = 1#1 → _}
    {hsrc : ∀ _, _} {hdst : ∀ _, _} {k : Prog (TpuEff nD τ sig (Elt F) Λ₀ .tc) α}
    (hk : St m K c (48 + j.val + 1) n ⊢ WP c k Q) :
    St m K c (48 + j.val) n
      ⊢ WP c (if h : cond = 1#1 then
          .op (.waitDma2 ((cc0_scratch1.slice (Rect.unit (s := S16) offS S1.size inbS)).squeeze S_ squeezes_S1_S_).sem
            (oM.slice (Rect.unit (s := S1024x64) offO S64x64.size (inbO h)) (fun _ => rfl))
            ((yM.slice (Rect.unit (s := S16x64x64) offY S1x64x64.size inbY) (fun _ => rfl)).squeeze S64x64 squeezes_S1x64x64_S64x64)
            (hsrc h) (hdst h)) (fun _ => k)
        else k) Q := by
  subst hoffS hoffY
  by_cases h : cond = 1#1
  · rw [dif_pos h]
    have hj : j ≠ c := hc.mp h
    refine (St_open m K c j (48 + j.val) (48 + j.val + 1) n fun k hk => others_wait m c j k (Or.inl hk)).trans ?_
    rw [slabAt_wait m c j hj, slabAt_back m c j hj, pend_late c _ (by omega), pend_late c _ (by omega), owR_empty]
    unfold sent back owe
    rw [← N_y j]
    iintro ⟨#P, ⟨%W, HO⟩, ⟨Hat, Hcr⟩, Hback⟩
    iapply (Rounds.wp_wait_rest_token 𝒱₀ ER (Rd m) (c : Thread nD τ) none (κ := K (c, .inr (.inl j))) (sm := .dma (sendS j)) (k' := (ySl j).view.dmaCredit)
      (wpE_waitDma2_eq 𝒱₀ (c : Thread nD τ) none Set.univ) (Set.mem_univ _) () (O := 0) (W := W) (R := 0) (m := 0) (T := ∅)
      (by rw [Nat.zero_add, expect_send m c j hj, N_y])) $$ [Hcr HO Hat]
    · unfold Pers
      icases P with ⟨#Hrec, -⟩
      isplitr; · iapply (inv_at m K (c, .inr (.inl j))); iexact Hrec
      isplitl [Hcr]; · iexact Hcr
      isplitl [HO]; · iexact HO
      isplitr; · rw [MayWait_zero]; iempintro
      iexact Hat
    rw [rest_send m c j hj]
    iintro ⟨HO, Hat, -, Hpay⟩
    unfold sendPay
    iapply hk
    iapply Hback
    isplitl [HO]; · iexists _; iexact HO
    isplitl [Hpay]; · iexact Hpay
    iexact Hat
  · rw [dif_neg h]
    have hj : j = c := by by_contra h'; exact h (hc.mpr h')
    subst hj
    exact (Entails.of_eq (St_skip m K j _ _ n ((pend_late j _ (by omega)).trans (pend_late j _ (by omega)).symm) fun k => others_wait m j j k (by
      by_cases hk : k = j
      · exact Or.inr hk
      · exact Or.inl hk))).trans hk

theorem recvAt_other (c s k : Dev nD) (h : k ≠ s) : recvAt m c s.val k = recvAt m c (s.val + 1) k := by
  have hk : k.val ≠ s.val := fun e => h (Fin.ext e)
  have e : (s.val ≤ k.val) = (s.val + 1 ≤ k.val) := propext (by omega)
  unfold recvAt; simp only [e]
theorem recvAt_before (c s : Dev nD) (h : s ≠ c) :
    recvAt m c s.val s = iprop(cred (tallyAt (recvCell c s) () N) ∗ atPos ER (recvCell c s) 0 ∅ 0) := by
  unfold recvAt; rw [if_neg h, if_pos (le_refl _)]
theorem recvAt_after (c s : Dev nD) (h : s ≠ c) :
    recvAt m c (s.val + 1) s = iprop(oPts c s (outFin m c) ∗ atPos ER (recvCell c s) 1 ∅ 0) := by
  unfold recvAt; rw [if_neg h, if_neg (by omega)]
theorem recvAt_self (c : Dev nD) (n n' : ℕ) : recvAt m c n c = recvAt m c n' c := by
  unfold recvAt; rw [if_pos rfl, if_pos rfl]

/-- The wait for another device's slab. -/
theorem step_waitR {α : Type} {Q : α → sProp 𝕄} {c : Dev nD} (s : Dev nD) {t : ℕ} (ht : 48 ≤ t) {cond : BitVec 1} (hc : cond = 1#1 ↔ s ≠ c)
    {offR : Fin 1 → ℕ} {inbR} (hoffR : offR = ![s.val])
    {offY : Fin 3 → ℕ} {inbY} {offO : Fin 2 → ℕ} {inbO}
    {hsrc : ∀ _, _} {hdst : ∀ _, _} {k : Prog (TpuEff nD τ sig (Elt F) Λ₀ .tc) α}
    (hk : St m K c t (s.val + 1) ⊢ WP c k Q) :
    St m K c t s.val
      ⊢ WP c (if h : cond = 1#1 then
          .op (.waitDma2 ((cc0_scratch2.slice (Rect.unit (s := S16) offR S1.size inbR)).squeeze S_ squeezes_S1_S_).sem
            ((yM.slice (Rect.unit (s := S16x64x64) offY S1x64x64.size inbY) (fun _ => rfl)).squeeze S64x64 squeezes_S1x64x64_S64x64)
            (oM.slice (Rect.unit (s := S1024x64) offO S64x64.size inbO) (fun _ => rfl))
            (hsrc h) (hdst h)) (fun _ => k)
        else k) Q := by
  subst hoffR
  by_cases h : cond = 1#1
  · rw [dif_pos h]
    have hs : s ≠ c := hc.mp h
    have hopen : St m K c t s.val ⊢ iprop(Pers m K ∗ owe c (owR c (pend c t)) ∗ recvAt m c s.val s
        ∗ ((owe c (owR c (pend c t)) ∗ recvAt m c (s.val + 1) s) -∗ St m K c t (s.val + 1))) := by
      unfold St
      rw [change_one s (recvAt_other m c s), take_out (Φ := recvAt m c (s.val + 1)) (Finset.mem_univ s)]
      iintro ⟨#P, HO, Hin, Hbar, Hslab, ⟨Hs, Hrest⟩⟩
      isplitr; · iexact P
      isplitl [HO]; · iexact HO
      isplitl [Hs]; · iexact Hs
      iintro ⟨HO, Hs⟩
      isplitr; · iexact P
      isplitl [HO]; · iexact HO
      isplitl [Hin]; · iexact Hin
      isplitl [Hbar]; · iexact Hbar
      isplitl [Hslab]; · iexact Hslab
      isplitl [Hs]; · iexact Hs
      iexact Hrest
    refine hopen.trans ?_
    rw [recvAt_before m c s hs, recvAt_after m c s hs, pend_late c t ht, owR_empty]
    unfold owe
    rw [show N = (oM.slice (Rect.unit (s := S1024x64) offO S64x64.size inbO) (fun _ => rfl)).view.dmaCredit from rfl]
    iintro ⟨#P, ⟨%W, HO⟩, ⟨Hcr, Hat⟩, Hback⟩
    iapply (Rounds.wp_wait_rest_token 𝒱₀ ER (Rd m) (c : Thread nD τ) none (κ := K (c, .inr (.inr s))) (sm := .dma (recvS s)) (k' := (oM.slice (Rect.unit (s := S1024x64) offO S64x64.size inbO) (fun _ => rfl)).view.dmaCredit)
      (wpE_waitDma2_eq 𝒱₀ (c : Thread nD τ) none Set.univ) (Set.mem_univ _) () (O := 0) (W := W) (R := 0) (m := 0) (T := ∅)
      (by rw [Nat.zero_add, expect_recv m c s hs]; rfl)) $$ [Hcr HO Hat]
    · unfold Pers
      icases P with ⟨#Hrec, -⟩
      isplitr; · iapply (inv_at m K (c, .inr (.inr s))); iexact Hrec
      isplitl [Hcr]; · iexact Hcr
      isplitl [HO]; · iexact HO
      isplitr; · rw [MayWait_zero]; iempintro
      iexact Hat
    rw [rest_recv m c s hs]
    iintro ⟨HO, Hat, -, Hpay⟩
    unfold recvPay
    iapply hk
    iapply Hback
    isplitl [HO]; · iexists _; iexact HO
    isplitl [Hpay]; · iexact Hpay
    iexact Hat
  · rw [dif_neg h]
    have hs : s = c := by by_contra h'; exact h (hc.mpr h')
    subst hs
    refine (Entails.of_eq ?_).trans hk
    unfold St
    rw [bigSep_congr fun k _ => show recvAt m s s.val k = recvAt m s (s.val + 1) k by
      by_cases hk : k = s
      · rw [hk]; exact recvAt_self m s _ _
      · exact recvAt_other m s s k hk]

/-- A slab at the start: what it was before the barrier, and the rows it is to fill. -/
theorem slabAt_zero (c j : Dev nD) : slabAt m c 0 j = iprop(slabStart (F := F) c j ∗ barPay (F := F) c j) := by
  unfold slabAt; rw [if_pos (Nat.zero_le _)]
  unfold frsh slabStart barPay
  refine BI.equiv_iff.mp ⟨?_, ?_⟩
  · show (_ : sProp 𝕄) ⊢ _
    iintro ⟨Hy, Ha, Ht, Ho⟩
    isplitr [Ho]
    · isplitl [Hy]; · iexact Hy
      isplitl [Ha]; · iexact Ha
      iexact Ht
    iexact Ho
  · show (_ : sProp 𝕄) ⊢ _
    iintro ⟨⟨Hy, Ha, Ht⟩, Ho⟩
    isplitl [Hy]; · iexact Hy
    isplitl [Ha]; · iexact Ha
    isplitl [Ht]; · iexact Ht
    iexact Ho

/-- The signal to another device: the rows of the result it is to fill go with it. -/
theorem step_signal {α : Type} {Q : α → sProp 𝕄} {c : Dev nD} {dev : Dev nD} {n : ℕ} (hdev : dev.val = (c.val + (n + 1)) % 16) (hn : n < 15)
    {a : ℤ} (ha : a = 1) {k : PUnit → Prog (TpuEff nD τ sig (Elt F) Λ₀ .tc) α}
    (hk : Sg m K c (n + 1) ⊢ WP c (k ⟨⟩) Q) :
    Sg m K c n ⊢ WP c (.op (.semSignal (Dev.tc dev) barS a) k) Q := by
  subst ha
  obtain ⟨hmem, her, hne⟩ := rem_step c dev n hdev hn
  unfold Sg at hk ⊢
  rw [take_out hmem, her, owB_take hmem, her]
  unfold owe at hk ⊢
  iintro ⟨#P, ⟨%W, HO⟩, Hin, ⟨⟨Htok, Hrows⟩, Htoks⟩, Hrest⟩
  iapply (Rounds.wp_signal 𝒱₀ ER (Rd m) (c : Thread nD τ) none (dst := (dev : Thread nD τ)) (sem := barS) (κ := K (dev, .inl ()))
      (r := 0) (d := c) (k' := 1) (by rw [duties_bar]; exact Finset.mem_erase.mpr ⟨Ne.symm hne, Finset.mem_univ _⟩) (amount_bar m dev c) ()
      (owR c (Finset.univ.erase c) + owB (rem c (n + 1))) (add_assoc _ _ _).symm) $$ [HO Htok Hrows]
  · unfold Pers
    icases P with ⟨#Hrec, -⟩
    isplitr; · iapply (inv_at m K (dev, .inl ())); iexact Hrec
    isplitl [HO]; · iexact HO
    isplitl [Htok]; · iexact Htok
    isplitl [Hrows]; · rw [payload_bar]; iexact Hrows
    iapply (reached_at m K (dev, .inl ())); iexact Hrec
  iintro HO
  iapply hk
  isplitr; · iexact P
  isplitl [HO]; · iexists W; iexact HO
  isplitl [Hin]; · iexact Hin
  isplitl [Htoks]; · iexact Htoks
  iexact Hrest

/-- The wait for the fifteen signals: the rows device `c` is to fill on every other device arrive. -/
theorem step_barrier {α : Type} {Q : α → sProp 𝕄} {c : Dev nD} {a : ℤ} (ha : a = 15) {k : PUnit → Prog (TpuEff nD τ sig (Elt F) Λ₀ .tc) α}
    (hk : St m K c 0 0 ⊢ WP c (k ⟨⟩) Q) :
    Sg m K c 15 ⊢ WP c (.op (.semWait barS a) k) Q := by
  subst ha
  unfold Sg
  rw [rem_end, bigSep_empty, owB_empty, add_zero]
  unfold owe
  iintro ⟨#P, ⟨%W, HO⟩, Hin, -, Hcr, Hat, Hself, Hslab, Hr⟩
  iapply (Rounds.wp_wait_rest_token 𝒱₀ ER (Rd m) (c : Thread nD τ) none (κ := K (c, .inl ())) (sm := .reg barS) (k' := 15)
      (wpE_semWait_eq 𝒱₀ (c : Thread nD τ) none Set.univ) (Set.mem_univ _) () (O := owR c (Finset.univ.erase c)) (W := W) (R := 0) (m := 0) (T := ∅)
      (by rw [expect_bar])) $$ [Hcr HO Hat]
  · unfold Pers
    icases P with ⟨#Hrec, #Hlev⟩
    isplitr; · iapply (inv_at m K (c, .inl ())); iexact Hrec
    isplitl [Hcr]; · iexact Hcr
    isplitl [HO]; · iexact HO
    isplitr; · iapply (mayWait_bar c (Finset.univ.erase c)); iexact Hlev
    iexact Hat
  rw [rest_bar m c]
  iintro ⟨HO, Hat, -, Hpay⟩
  iapply hk
  unfold St owe
  rw [pend_zero]
  isplitr; · iexact P
  isplitl [HO]; · iexists _; iexact HO
  isplitl [Hin]; · iexact Hin
  isplitl [Hat]; · iexact Hat
  isplitr [Hr]
  · rw [show bigSep Finset.univ (slabAt m c 0) = (bigSep Finset.univ fun j => iprop(slabStart (F := F) c j ∗ barPay (F := F) c j) : sProp 𝕄)
      from bigSep_congr fun j _ => slabAt_zero m c j, bigSep_sep']
    isplitl [Hslab]; · iexact Hslab
    rw [take_out (Φ := fun j => barPay (F := F) c j) (Finset.mem_univ c)]
    isplitl [Hself]; · iexact Hself
    iexact Hpay
  iexact Hr

end Cert.A2A

end
-- ==== Proof.Body.lean ====
/-
# The all-to-all kernel: the body, part by part

The body is fifteen parts. Each part is walked operation by operation with the step lemmas; what a part returns is named
by the slab it belongs to. The parts are then put one after another.
-/
module

public import proofs.«01_k».proof.Proof.Steps

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Ck → ℕ)

/-! ## Conditions -/

/-- A device's own number, as the program computes it. -/
def word (c : Dev nD) : BitVec 32 := Scalar.remsi (Scalar.divsi (Dev.word c) 1#32) 16#32

/-- The test "this is not device `j`", and -/
theorem cond_ne : ∀ c j : Dev nD,
    Scalar.cmpi .ne (Scalar.extui (Scalar.cmpi .ne (word c) (BitVec.ofNat 32 j.val))) 0#32 = 1#1 ↔ j ≠ c := by decide +kernel
/-- the test "this is device `j`". -/
theorem cond_eq : ∀ c j : Dev nD,
    Scalar.cmpi .ne (Scalar.extui (Scalar.cmpi .eq (word c) (BitVec.ofNat 32 j.val))) 0#32 = 1#1 ↔ j = c := by decide +kernel

/-- A device given by its number. -/
theorem dev_eq {a : ℕ} {h : a < nD} {j : Dev nD} (e : a = j.val) : (⟨a, h⟩ : Dev nD) = j := Fin.ext e

/-- Asking for its own number gives a device that number. -/
theorem step_device {α : Type} {Q : α → sProp 𝕄} {c : Dev nD} {S : sProp 𝕄} {k : Dev nD → Prog (TpuEff nD τ sig (Elt F) Λ₀ .tc) α}
    (hk : S ⊢ WP c (k c) Q) : S ⊢ WP c (.op .deviceId k) Q := by
  unfold WP at hk ⊢; rw [wp_deviceId]; exact hk

/-! ## The parts -/

theorem part1 {Q : (Σ' (d0 : Dev nD) (v2 : BitVec 32) (v3 : Sems sig S_) (v24 : BitVec 32), BitVec 32) → sProp 𝕄} (c : Dev nD)
    (hk : ∀ a b, Sg m K c 5 ⊢ Q ⟨c, word c, SemArray.scalar (sig.barrier 0 rfl), a, b⟩) :
    Sg m K c 0 ⊢ WP c (k0_part1 (F := F) xM (Memref.isWhole_whole _) wM (Memref.isWhole_whole _) oM (Memref.isWhole_whole _) yM (Memref.isWhole_whole _) cc0_scratch1 cc0_scratch2) Q := by
  rw [k0_part1_eq_skeleton]; unfold k0_part1_skel
  simp only [semSignalWord, semWaitWord, Prog.lift, Prog.bind_op, Prog.bind_ret, Prog.pure_eq_ret]
  refine step_device ?_
  refine step_signal m K (n := 0) (k0_dev1_eq c) (by decide) (by decide) ?_
  refine step_signal m K (n := 1) (k0_dev2_eq c) (by decide) (by decide) ?_
  refine step_signal m K (n := 2) (k0_dev3_eq c) (by decide) (by decide) ?_
  refine step_signal m K (n := 3) (k0_dev4_eq c) (by decide) (by decide) ?_
  refine step_signal m K (n := 4) (k0_dev5_eq c) (by decide) (by decide) ?_
  exact (hk _ _).trans (le_wp_ret _ _ _ _ _)

theorem part2 {Q : (Σ' (v48 : BitVec 32), BitVec 32) → sProp 𝕄} (c : Dev nD) (v2 a b : BitVec 32)
    (hk : ∀ a b, Sg m K c 11 ⊢ Q ⟨a, b⟩) :
    Sg m K c 5 ⊢ WP c (k0_part2 (F := F) xM (Memref.isWhole_whole _) wM (Memref.isWhole_whole _) oM (Memref.isWhole_whole _) yM (Memref.isWhole_whole _) cc0_scratch1 cc0_scratch2 c v2 (SemArray.scalar (sig.barrier 0 rfl)) a b) Q := by
  rw [k0_part2_eq_skeleton]; unfold k0_part2_skel
  simp only [semSignalWord, semWaitWord, Prog.lift, Prog.bind_op, Prog.bind_ret, Prog.pure_eq_ret]
  refine step_signal m K (n := 5) (k0_dev6_eq c) (by decide) (by decide) ?_
  refine step_signal m K (n := 6) (k0_dev7_eq c) (by decide) (by decide) ?_
  refine step_signal m K (n := 7) (k0_dev8_eq c) (by decide) (by decide) ?_
  refine step_signal m K (n := 8) (k0_dev9_eq c) (by decide) (by decide) ?_
  refine step_signal m K (n := 9) (k0_dev10_eq c) (by decide) (by decide) ?_
  refine step_signal m K (n := 10) (k0_dev11_eq c) (by decide) (by decide) ?_
  exact (hk _ _).trans (le_wp_ret _ _ _ _ _)

theorem part3 {Q : (Σ' (v65 : FVec F S64x1024 .bf16) (v72 : FVec F S64x64 .bf16) (v73 : FVec F S64x64 .bf16), Vec F S1x64x64 .bf16) → sProp 𝕄} (c : Dev nD) (v2 a b : BitVec 32)
    (hk : ∀ v, St m K c 0 0 ⊢ Q ⟨k0_pay1 (xval m c), slab m c 0, slab m c 1, v⟩) :
    Sg m K c 11 ⊢ WP c (k0_part3 (F := F) xM (Memref.isWhole_whole _) wM (Memref.isWhole_whole _) oM (Memref.isWhole_whole _) yM (Memref.isWhole_whole _) cc0_scratch1 cc0_scratch2 c v2 (SemArray.scalar (sig.barrier 0 rfl)) a b) Q := by
  rw [k0_part3_eq_skeleton]; unfold k0_part3_skel
  simp only [semSignalWord, semWaitWord, Prog.lift, Prog.bind_op, Prog.bind_ret, Prog.pure_eq_ret]
  refine step_signal m K (n := 11) (k0_dev12_eq c) (by decide) (by decide) ?_
  refine step_signal m K (n := 12) (k0_dev13_eq c) (by decide) (by decide) ?_
  refine step_signal m K (n := 13) (k0_dev14_eq c) (by decide) (by decide) ?_
  refine step_signal m K (n := 14) (k0_dev15_eq c) (by decide) (by decide) ?_
  refine step_barrier m K (by decide) ?_
  refine step_loadx m K ?_
  refine step_loadw m K 0 rfl ?_
  refine step_loady m K 0 rfl fun v => ?_
  exact (hk _).trans (le_wp_ret _ _ _ _ _)

theorem part4 {Q : (Σ' (v101 : FVec F S64x64 .bf16), FVec F S1x64x64 .bf16) → sProp 𝕄} (c : Dev nD) (v2 : BitVec 32) (v : Vec F S1x64x64 .bf16)
    (hk : St m K c 6 0 ⊢ Q ⟨slab m c 3, yv m c 2⟩) :
    St m K c 0 0 ⊢ WP c (k0_part4 (F := F) xM (Memref.isWhole_whole _) wM (Memref.isWhole_whole _) oM (Memref.isWhole_whole _) yM (Memref.isWhole_whole _) cc0_scratch1 cc0_scratch2 c v2 (k0_pay1 (xval m c)) (slab m c 0) (slab m c 1) v) Q := by
  rw [k0_part4_eq_skeleton]; unfold k0_part4_skel
  simp only [semSignalWord, semWaitWord, Prog.lift, Prog.bind_op, Prog.bind_ret, Prog.pure_eq_ret]
  refine step_store m K 0 rfl rfl ?_
  refine step_send m K 0 (cond_ne c 0) (fun _ => dev_eq k0_dev16_eq) rfl (k0_off1_eq c) rfl (k0_off2_eq c) ?_
  refine step_own m K 0 (cond_eq c 0) rfl (k0_off3_eq c) (fun _ => rfl) ?_
  refine step_loady m K 1 rfl fun v => ?_
  refine step_store m K 1 rfl rfl ?_
  refine step_send m K 1 (cond_ne c 1) (fun _ => dev_eq k0_dev17_eq) rfl (k0_off4_eq c) rfl (k0_off5_eq c) ?_
  refine step_own m K 1 (cond_eq c 1) rfl (k0_off6_eq c) (fun _ => rfl) ?_
  refine step_loadw m K 1 rfl ?_
  refine step_loady m K 2 rfl fun v => ?_
  exact hk.trans (le_wp_ret _ _ _ _ _)

theorem part5 {Q : (Σ' (v129 : FVec F S64x64 .bf16), BitVec 32) → sProp 𝕄} (c : Dev nD) (v2 : BitVec 32)
    (hk : ∀ b, St m K c 13 0 ⊢ Q ⟨slab m c 5, b⟩) :
    St m K c 6 0 ⊢ WP c (k0_part5 (F := F) xM (Memref.isWhole_whole _) wM (Memref.isWhole_whole _) oM (Memref.isWhole_whole _) yM (Memref.isWhole_whole _) cc0_scratch1 cc0_scratch2 c v2 (k0_pay1 (xval m c)) (slab m c 3) (yv m c 2)) Q := by
  rw [k0_part5_eq_skeleton]; unfold k0_part5_skel
  simp only [semSignalWord, semWaitWord, Prog.lift, Prog.bind_op, Prog.bind_ret, Prog.pure_eq_ret]
  refine step_store m K 2 rfl rfl ?_
  refine step_send m K 2 (cond_ne c 2) (fun _ => dev_eq k0_dev18_eq) rfl (k0_off7_eq c) rfl (k0_off8_eq c) ?_
  refine step_own m K 2 (cond_eq c 2) rfl (k0_off9_eq c) (fun _ => rfl) ?_
  refine step_loady m K 3 rfl fun v => ?_
  refine step_store m K 3 rfl rfl ?_
  refine step_send m K 3 (cond_ne c 3) (fun _ => dev_eq k0_dev19_eq) rfl (k0_off10_eq c) rfl (k0_off11_eq c) ?_
  refine step_own m K 3 (cond_eq c 3) rfl (k0_off12_eq c) (fun _ => rfl) ?_
  refine step_loadw m K 2 rfl ?_
  refine step_loady m K 4 rfl fun v => ?_
  refine step_store m K 4 rfl rfl ?_
  exact (hk _).trans (le_wp_ret _ _ _ _ _)

theorem part6 {Q : (Σ' (v : FVec F S64x64 .bf16), BitVec 32) → sProp 𝕄} (c : Dev nD) (v2 b : BitVec 32)
    (hk : ∀ b, St m K c 19 0 ⊢ Q ⟨slab m c 7, b⟩) :
    St m K c 13 0 ⊢ WP c (k0_part6 (F := F) xM (Memref.isWhole_whole _) wM (Memref.isWhole_whole _) oM (Memref.isWhole_whole _) yM (Memref.isWhole_whole _) cc0_scratch1 cc0_scratch2 c v2 (k0_pay1 (xval m c)) (slab m c 5) b) Q := by
  rw [k0_part6_eq_skeleton]; unfold k0_part6_skel
  simp only [semSignalWord, semWaitWord, Prog.lift, Prog.bind_op, Prog.bind_ret, Prog.pure_eq_ret]
  refine step_send m K 4 (cond_ne c 4) (fun _ => dev_eq k0_dev20_eq) rfl (k0_off13_eq c) rfl (k0_off14_eq c) ?_
  refine step_own m K 4 (cond_eq c 4) rfl (k0_off15_eq c) (fun _ => rfl) ?_
  refine step_loady m K 5 rfl fun v => ?_
  refine step_store m K 5 rfl rfl ?_
  refine step_send m K 5 (cond_ne c 5) (fun _ => dev_eq k0_dev21_eq) rfl (k0_off16_eq c) rfl (k0_off17_eq c) ?_
  refine step_own m K 5 (cond_eq c 5) rfl (k0_off18_eq c) (fun _ => rfl) ?_
  refine step_loadw m K 3 rfl ?_
  refine step_loady m K 6 rfl fun v => ?_
  refine step_store m K 6 rfl rfl ?_
  exact (hk _).trans (le_wp_ret _ _ _ _ _)

theorem part7 {Q : (Σ' (v : FVec F S64x64 .bf16), BitVec 32) → sProp 𝕄} (c : Dev nD) (v2 b : BitVec 32)
    (hk : ∀ b, St m K c 25 0 ⊢ Q ⟨slab m c 9, b⟩) :
    St m K c 19 0 ⊢ WP c (k0_part7 (F := F) xM (Memref.isWhole_whole _) wM (Memref.isWhole_whole _) oM (Memref.isWhole_whole _) yM (Memref.isWhole_whole _) cc0_scratch1 cc0_scratch2 c v2 (k0_pay1 (xval m c)) (slab m c 7) b) Q := by
  rw [k0_part7_eq_skeleton]; unfold k0_part7_skel
  simp only [semSignalWord, semWaitWord, Prog.lift, Prog.bind_op, Prog.bind_ret, Prog.pure_eq_ret]
  refine step_send m K 6 (cond_ne c 6) (fun _ => dev_eq k0_dev22_eq) rfl (k0_off19_eq c) rfl (k0_off20_eq c) ?_
  refine step_own m K 6 (cond_eq c 6) rfl (k0_off21_eq c) (fun _ => rfl) ?_
  refine step_loady m K 7 rfl fun v => ?_
  refine step_store m K 7 rfl rfl ?_
  refine step_send m K 7 (cond_ne c 7) (fun _ => dev_eq k0_dev23_eq) rfl (k0_off22_eq c) rfl (k0_off23_eq c) ?_
  refine step_own m K 7 (cond_eq c 7) rfl (k0_off24_eq c) (fun _ => rfl) ?_
  refine step_loadw m K 4 rfl ?_
  refine step_loady m K 8 rfl fun v => ?_
  refine step_store m K 8 rfl rfl ?_
  exact (hk _).trans (le_wp_ret _ _ _ _ _)

theorem part8 {Q : (Σ' (v : FVec F S64x64 .bf16), BitVec 32) → sProp 𝕄} (c : Dev nD) (v2 b : BitVec 32)
    (hk : ∀ b, St m K c 31 0 ⊢ Q ⟨slab m c 11, b⟩) :
    St m K c 25 0 ⊢ WP c (k0_part8 (F := F) xM (Memref.isWhole_whole _) wM (Memref.isWhole_whole _) oM (Memref.isWhole_whole _) yM (Memref.isWhole_whole _) cc0_scratch1 cc0_scratch2 c v2 (k0_pay1 (xval m c)) (slab m c 9) b) Q := by
  rw [k0_part8_eq_skeleton]; unfold k0_part8_skel
  simp only [semSignalWord, semWaitWord, Prog.lift, Prog.bind_op, Prog.bind_ret, Prog.pure_eq_ret]
  refine step_send m K 8 (cond_ne c 8) (fun _ => dev_eq k0_dev24_eq) rfl (k0_off25_eq c) rfl (k0_off26_eq c) ?_
  refine step_own m K 8 (cond_eq c 8) rfl (k0_off27_eq c) (fun _ => rfl) ?_
  refine step_loady m K 9 rfl fun v => ?_
  refine step_store m K 9 rfl rfl ?_
  refine step_send m K 9 (cond_ne c 9) (fun _ => dev_eq k0_dev25_eq) rfl (k0_off28_eq c) rfl (k0_off29_eq c) ?_
  refine step_own m K 9 (cond_eq c 9) rfl (k0_off30_eq c) (fun _ => rfl) ?_
  refine step_loadw m K 5 rfl ?_
  refine step_loady m K 10 rfl fun v => ?_
  refine step_store m K 10 rfl rfl ?_
  exact (hk _).trans (le_wp_ret _ _ _ _ _)

theorem part9 {Q : FVec F S64x64 .bf16 → sProp 𝕄} (c : Dev nD) (v2 b : BitVec 32)
    (hk : St m K c 37 0 ⊢ Q (slab m c 13)) :
    St m K c 31 0 ⊢ WP c (k0_part9 (F := F) xM (Memref.isWhole_whole _) wM (Memref.isWhole_whole _) oM (Memref.isWhole_whole _) yM (Memref.isWhole_whole _) cc0_scratch1 cc0_scratch2 c v2 (k0_pay1 (xval m c)) (slab m c 11) b) Q := by
  rw [k0_part9_eq_skeleton]; unfold k0_part9_skel
  simp only [semSignalWord, semWaitWord, Prog.lift, Prog.bind_op, Prog.bind_ret, Prog.pure_eq_ret]
  refine step_send m K 10 (cond_ne c 10) (fun _ => dev_eq k0_dev26_eq) rfl (k0_off31_eq c) rfl (k0_off32_eq c) ?_
  refine step_own m K 10 (cond_eq c 10) rfl (k0_off33_eq c) (fun _ => rfl) ?_
  refine step_loady m K 11 rfl fun v => ?_
  refine step_store m K 11 rfl rfl ?_
  refine step_send m K 11 (cond_ne c 11) (fun _ => dev_eq k0_dev27_eq) rfl (k0_off34_eq c) rfl (k0_off35_eq c) ?_
  refine step_own m K 11 (cond_eq c 11) rfl (k0_off36_eq c) (fun _ => rfl) ?_
  refine step_loadw m K 6 rfl ?_
  refine step_loady m K 12 rfl fun v => ?_
  refine step_store m K 12 rfl rfl ?_
  exact hk.trans (le_wp_ret _ _ _ _ _)

theorem part10 {Q : (Σ' (v : FVec F S64x64 .bf16), BitVec 32) → sProp 𝕄} (c : Dev nD) (v2 : BitVec 32)
    (hk : ∀ b, St m K c 44 0 ⊢ Q ⟨slab m c 15, b⟩) :
    St m K c 37 0 ⊢ WP c (k0_part10 (F := F) xM (Memref.isWhole_whole _) wM (Memref.isWhole_whole _) oM (Memref.isWhole_whole _) yM (Memref.isWhole_whole _) cc0_scratch1 cc0_scratch2 c v2 (k0_pay1 (xval m c)) (slab m c 13)) Q := by
  rw [k0_part10_eq_skeleton]; unfold k0_part10_skel
  simp only [semSignalWord, semWaitWord, Prog.lift, Prog.bind_op, Prog.bind_ret, Prog.pure_eq_ret]
  refine step_send m K 12 (cond_ne c 12) (fun _ => dev_eq k0_dev28_eq) rfl (k0_off37_eq c) rfl (k0_off38_eq c) ?_
  refine step_own m K 12 (cond_eq c 12) rfl (k0_off39_eq c) (fun _ => rfl) ?_
  refine step_loady m K 13 rfl fun v => ?_
  refine step_store m K 13 rfl rfl ?_
  refine step_send m K 13 (cond_ne c 13) (fun _ => dev_eq k0_dev29_eq) rfl (k0_off40_eq c) rfl (k0_off41_eq c) ?_
  refine step_own m K 13 (cond_eq c 13) rfl (k0_off42_eq c) (fun _ => rfl) ?_
  refine step_loadw m K 7 rfl ?_
  refine step_loady m K 14 rfl fun v => ?_
  refine step_store m K 14 rfl rfl ?_
  refine step_send m K 14 (cond_ne c 14) (fun _ => dev_eq k0_dev30_eq) rfl (k0_off43_eq c) rfl (k0_off44_eq c) ?_
  exact (hk _).trans (le_wp_ret _ _ _ _ _)

set_option maxHeartbeats 2000000 in
theorem part11 {Q : PUnit → sProp 𝕄} (c : Dev nD) (v2 b : BitVec 32)
    (hk : St m K c 52 0 ⊢ Q ⟨⟩) :
    St m K c 44 0 ⊢ WP c (k0_part11 (F := F) xM (Memref.isWhole_whole _) wM (Memref.isWhole_whole _) oM (Memref.isWhole_whole _) yM (Memref.isWhole_whole _) cc0_scratch1 cc0_scratch2 c v2 (slab m c 15) b) Q := by
  rw [k0_part11_eq_skeleton]; unfold k0_part11_skel
  simp only [semSignalWord, semWaitWord, Prog.lift, Prog.bind_op, Prog.bind_ret, Prog.pure_eq_ret]
  refine step_own m K 14 (cond_eq c 14) rfl (k0_off45_eq c) (fun _ => rfl) ?_
  refine step_loady m K 15 rfl fun v => ?_
  refine step_store m K 15 rfl rfl ?_
  refine step_send m K 15 (cond_ne c 15) (fun _ => dev_eq k0_dev31_eq) rfl (k0_off46_eq c) rfl (k0_off47_eq c) ?_
  refine step_own m K 15 (cond_eq c 15) rfl (k0_off48_eq c) (fun _ => rfl) ?_
  refine step_waitS m K 0 (cond_ne c 0) rfl rfl ?_
  refine step_waitS m K 1 (cond_ne c 1) rfl rfl ?_
  refine step_waitS m K 2 (cond_ne c 2) rfl rfl ?_
  refine step_waitS m K 3 (cond_ne c 3) rfl rfl ?_
  exact hk.trans (le_wp_ret _ _ _ _ _)

theorem part12 {Q : BitVec 32 → sProp 𝕄} (c : Dev nD) (v2 : BitVec 32)
    (hk : ∀ b, St m K c 59 0 ⊢ Q b) :
    St m K c 52 0 ⊢ WP c (k0_part12 (F := F) xM (Memref.isWhole_whole _) wM (Memref.isWhole_whole _) oM (Memref.isWhole_whole _) yM (Memref.isWhole_whole _) cc0_scratch1 cc0_scratch2 c v2) Q := by
  rw [k0_part12_eq_skeleton]; unfold k0_part12_skel
  simp only [semSignalWord, semWaitWord, Prog.lift, Prog.bind_op, Prog.bind_ret, Prog.pure_eq_ret]
  refine step_waitS m K 4 (cond_ne c 4) rfl rfl ?_
  refine step_waitS m K 5 (cond_ne c 5) rfl rfl ?_
  refine step_waitS m K 6 (cond_ne c 6) rfl rfl ?_
  refine step_waitS m K 7 (cond_ne c 7) rfl rfl ?_
  refine step_waitS m K 8 (cond_ne c 8) rfl rfl ?_
  refine step_waitS m K 9 (cond_ne c 9) rfl rfl ?_
  refine step_waitS m K 10 (cond_ne c 10) rfl rfl ?_
  exact (hk _).trans (le_wp_ret _ _ _ _ _)

theorem part13 {Q : BitVec 32 → sProp 𝕄} (c : Dev nD) (b : BitVec 32)
    (hk : St m K c 64 2 ⊢ Q (Scalar.extui (Scalar.cmpi .ne (word c) 2#32))) :
    St m K c 59 0 ⊢ WP c (k0_part13 (F := F) xM (Memref.isWhole_whole _) wM (Memref.isWhole_whole _) oM (Memref.isWhole_whole _) yM (Memref.isWhole_whole _) cc0_scratch1 cc0_scratch2 c (word c) b) Q := by
  rw [k0_part13_eq_skeleton]; unfold k0_part13_skel
  simp only [semSignalWord, semWaitWord, Prog.lift, Prog.bind_op, Prog.bind_ret, Prog.pure_eq_ret]
  refine step_waitS m K 11 (cond_ne c 11) rfl rfl ?_
  refine step_waitS m K 12 (cond_ne c 12) rfl rfl ?_
  refine step_waitS m K 13 (cond_ne c 13) rfl rfl ?_
  refine step_waitS m K 14 (cond_ne c 14) rfl rfl ?_
  refine step_waitS m K 15 (cond_ne c 15) rfl rfl ?_
  refine step_waitR m K 0 (by decide) (cond_ne c 0) rfl ?_
  refine step_waitR m K 1 (by decide) (cond_ne c 1) rfl ?_
  exact hk.trans (le_wp_ret _ _ _ _ _)

theorem part14 {Q : BitVec 32 → sProp 𝕄} (c : Dev nD)
    (hk : St m K c 64 9 ⊢ Q (Scalar.extui (Scalar.cmpi .ne (word c) 9#32))) :
    St m K c 64 2 ⊢ WP c (k0_part14 (F := F) xM (Memref.isWhole_whole _) wM (Memref.isWhole_whole _) oM (Memref.isWhole_whole _) yM (Memref.isWhole_whole _) cc0_scratch1 cc0_scratch2 (word c) (Scalar.extui (Scalar.cmpi .ne (word c) 2#32))) Q := by
  rw [k0_part14_eq_skeleton]; unfold k0_part14_skel
  simp only [semSignalWord, semWaitWord, Prog.lift, Prog.bind_op, Prog.bind_ret, Prog.pure_eq_ret]
  refine step_waitR m K 2 (by decide) (cond_ne c 2) rfl ?_
  refine step_waitR m K 3 (by decide) (cond_ne c 3) rfl ?_
  refine step_waitR m K 4 (by decide) (cond_ne c 4) rfl ?_
  refine step_waitR m K 5 (by decide) (cond_ne c 5) rfl ?_
  refine step_waitR m K 6 (by decide) (cond_ne c 6) rfl ?_
  refine step_waitR m K 7 (by decide) (cond_ne c 7) rfl ?_
  refine step_waitR m K 8 (by decide) (cond_ne c 8) rfl ?_
  exact hk.trans (le_wp_ret _ _ _ _ _)

theorem part15 {Q : PUnit → sProp 𝕄} (c : Dev nD)
    (hk : St m K c 64 16 ⊢ Q ⟨⟩) :
    St m K c 64 9 ⊢ WP c (k0_part15 (F := F) xM (Memref.isWhole_whole _) wM (Memref.isWhole_whole _) oM (Memref.isWhole_whole _) yM (Memref.isWhole_whole _) cc0_scratch1 cc0_scratch2 (word c) (Scalar.extui (Scalar.cmpi .ne (word c) 9#32))) Q := by
  rw [k0_part15_eq_skeleton]; unfold k0_part15_skel
  simp only [semSignalWord, semWaitWord, Prog.lift, Prog.bind_op, Prog.bind_ret, Prog.pure_eq_ret]
  refine step_waitR m K 9 (by decide) (cond_ne c 9) rfl ?_
  refine step_waitR m K 10 (by decide) (cond_ne c 10) rfl ?_
  refine step_waitR m K 11 (by decide) (cond_ne c 11) rfl ?_
  refine step_waitR m K 12 (by decide) (cond_ne c 12) rfl ?_
  refine step_waitR m K 13 (by decide) (cond_ne c 13) rfl ?_
  refine step_waitR m K 14 (by decide) (cond_ne c 14) rfl ?_
  refine step_waitR m K 15 (by decide) (cond_ne c 15) rfl ?_
  exact hk.trans (le_wp_ret _ _ _ _ _)

/-! ## The body -/

set_option maxHeartbeats 2000000 in
/-- The whole body: from the state before the first signal to the state after the last wait. -/
theorem body_run {Q : PUnit → sProp 𝕄} (c : Dev nD) (hk : St m K c 64 16 ⊢ WP c (.ret ⟨⟩) Q) :
    Sg m K c 0 ⊢ WP c (cc0_body (F := F) xM (Memref.isWhole_whole _) wM (Memref.isWhole_whole _) oM (Memref.isWhole_whole _) yM (Memref.isWhole_whole _) cc0_scratch1 cc0_scratch2) Q := by
  rw [cc0_body_eq_skeleton]; unfold cc0_body_skel
  simp only [wp_bind]
  refine part1 m K c fun a b => ?_
  refine part2 m K c _ _ _ fun a b => ?_
  refine part3 m K c _ _ _ fun v => ?_
  refine part4 m K c _ _ ?_
  refine part5 m K c _ fun b => ?_
  refine part6 m K c _ _ fun b => ?_
  refine part7 m K c _ _ fun b => ?_
  refine part8 m K c _ _ fun b => ?_
  refine part9 m K c _ _ ?_
  refine part10 m K c _ fun b => ?_
  refine part11 m K c _ _ ?_
  refine part12 m K c _ fun b => ?_
  refine part13 m K c _ ?_
  refine part14 m K c ?_
  refine part15 m K c ?_
  exact hk

end Cert.A2A

end
-- ==== Proof.Ends.lean ====
/-
# The all-to-all kernel: into the body and out of it

What the launch hands a device is brought into the state before the first signal, and the state after the last wait is
taken apart again: every semaphore cell is closed at zero, the slabs are joined to the scratch buffer and the row blocks
to the result.
-/
module

public import proofs.«01_k».proof.Proof.Body

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A family over the protocol's semaphores -/

theorem ck_split (Φ : Unit ⊕ (Dev nD ⊕ Dev nD) → sProp 𝕄) :
    (bigSep Finset.univ Φ : sProp 𝕄) = iprop(Φ (.inl ()) ∗ (bigSep Finset.univ fun j : Dev nD => Φ (.inr (.inl j)))
      ∗ bigSep Finset.univ fun s : Dev nD => Φ (.inr (.inr s))) := by
  rw [bigSep_univ_sum, bigSep_univ_sum, show (Finset.univ : Finset Unit) = {()} from rfl, bigSep_singleton]; rfl

/-- One device's part and the others' parts, put together. -/
theorem join_one (c : Dev nD) (A : Dev nD → sProp 𝕄) :
    iprop((bigSep Finset.univ fun j => if j = c then A j else iprop(emp)) ∗ bigSep Finset.univ fun j => if j = c then iprop(emp) else A j)
      ⊢ bigSep Finset.univ A := by
  rw [← bigSep_sep']
  refine bigSep_mono fun j _ => ?_
  by_cases h : j = c
  · rw [if_pos h, if_pos h]; show (_ : sProp 𝕄) ⊢ _; iintro ⟨H, -⟩; iexact H
  · rw [if_neg h, if_neg h]; show (_ : sProp 𝕄) ⊢ _; iintro ⟨-, H⟩; iexact H

/-! ## Before the body -/

/-- What device `c` pays with: its signal to every device, its copy to every device. -/
def payToks (c : Dev nD) : sProp 𝕄 :=
  iprop((bigSep Finset.univ fun p : Dev nD => dutyTok ER (barCell p) 0 c)
    ∗ (bigSep Finset.univ fun j : Dev nD => dutyTok ER (recvCell j c) 0 c)
    ∗ bigSep Finset.univ fun j : Dev nD => dutyTok ER (sendCell c j) 0 j)
/-- Its positions on its own cells, and that. -/
def linear (c : Dev nD) : sProp 𝕄 :=
  iprop((bigSep Finset.univ fun k : Unit ⊕ (Dev nD ⊕ Dev nD) => atPos ER (kcell (c, k)) 0 ∅ 0) ∗ payToks (F := F) c)
/-- What the launch credits it: the fifteen signals and the fifteen copies it receives. -/
def credits (c : Dev nD) : sProp 𝕄 :=
  iprop(cred (tallyAt (barCell c) () 15) ∗ bigSep (Finset.univ.erase c) fun s => cred (tallyAt (recvCell c s) () N))
/-- What a device starts from, beside its buffers. -/
def start (c : Dev nD) : sProp 𝕄 :=
  iprop((∃ K, records m K ∗ linear (F := F) c) ∗ credits (F := F) c ∗ levAts L lv)

/-- The slabs before the barrier. -/
theorem slabs_start (c : Dev nD) (f : Buf (Elt F) ((c : Thread nD τ).loc cc0_scratch0)) :
    iprop((((c : Thread nD τ).loc cc0_scratch0) ↦{fullShare} f) ∗ (bigSep Finset.univ fun j : Dev nD => atPos ER (sendCell c j) 0 ∅ 0)
      ∗ (bigSep Finset.univ fun j : Dev nD => dutyTok ER (recvCell j c) 0 c) ∗ bigSep Finset.univ fun j : Dev nD => dutyTok ER (sendCell c j) 0 j)
      ⊢ bigSep Finset.univ (slabStart (F := F) c) := by
  rw [y_blocks, ← bigSep_sep', ← bigSep_sep', ← bigSep_sep']
  refine bigSep_mono fun j _ => ?_
  unfold slabStart toks
  by_cases h : j = c
  · rw [if_pos h]
    show (_ : sProp 𝕄) ⊢ _
    iintro ⟨Hy, Hp, -⟩
    isplitl [Hy]; · iexists f; iexact Hy
    isplitl [Hp]; · iexact Hp
    iempintro
  · rw [if_neg h]
    show (_ : sProp 𝕄) ⊢ _
    iintro ⟨Hy, Hp, Ht⟩
    isplitl [Hy]; · iexists f; iexact Hy
    isplitl [Hp]; · iexact Hp
    iexact Ht

/-- The rows to be received, before any has come. -/
theorem recvs_start (c : Dev nD) :
    iprop((bigSep Finset.univ fun s : Dev nD => atPos ER (recvCell c s) 0 ∅ 0) ∗ bigSep (Finset.univ.erase c) fun s => cred (tallyAt (recvCell c s) () N))
      ⊢ bigSep Finset.univ (recvAt m c 0) := by
  rw [take_out (Φ := recvAt m c 0) (Finset.mem_univ c),
    take_out (Φ := fun s : Dev nD => atPos ER (recvCell c s) 0 ∅ 0) (Finset.mem_univ c),
    show (bigSep (Finset.univ.erase c) (recvAt m c 0) : sProp 𝕄)
      = iprop((bigSep (Finset.univ.erase c) fun s => cred (tallyAt (recvCell c s) () N)) ∗ bigSep (Finset.univ.erase c) fun s => atPos ER (recvCell c s) 0 ∅ 0) from by
        rw [← bigSep_sep']
        exact bigSep_congr fun s hs => by unfold recvAt; rw [if_neg (Finset.ne_of_mem_erase hs), if_pos (Nat.zero_le _)]]
  iintro ⟨⟨Hc, Hp⟩, Hcr⟩
  isplitl [Hc]; · unfold recvAt; rw [if_pos rfl]; iexact Hc
  isplitl [Hcr]; · iexact Hcr
  iexact Hp

/-- The signals to send, each with the rows it hands over; the device's own rows stay. -/
theorem signals_start (c : Dev nD) (f : Buf (Elt F) ((c : Thread nD τ).loc cc0_stg2_0)) :
    iprop((((c : Thread nD τ).loc cc0_stg2_0) ↦{fullShare} f) ∗ bigSep Finset.univ fun p : Dev nD => dutyTok ER (barCell p) 0 c)
      ⊢ iprop((bigSep (rem c 0) fun p => iprop(dutyTok ER (barCell p) 0 c ∗ barPay (F := F) p c)) ∗ barPay (F := F) c c) := by
  have hb : ∀ p : Dev nD, (oPts c p f : sProp 𝕄) ⊢ barPay (F := F) p c := fun p => by
    unfold barPay; iintro H; iexists f; iexact H
  rw [rem_zero, o_blocks, take_out (Φ := fun p : Dev nD => oPts c p f) (Finset.mem_univ c),
    take_out (Φ := fun p : Dev nD => dutyTok ER (barCell p) 0 c) (Finset.mem_univ c), bigSep_sep']
  iintro ⟨⟨Ho, Hos⟩, -, Ht⟩
  isplitr [Ho]
  · isplitl [Ht]; · iexact Ht
    iapply (show (bigSep (Finset.univ.erase c) (fun p : Dev nD => oPts c p f) : sProp 𝕄) ⊢ bigSep (Finset.univ.erase c) fun p => barPay (F := F) p c from
      bigSep_mono fun p _ => hb p)
    iexact Hos
  iapply (hb c); iexact Ho

/-- Into the body. -/
theorem enter (K : Ck → ℕ) (c : Dev nD) (f : Buf (Elt F) ((c : Thread nD τ).loc cc0_scratch0)) (g : Buf (Elt F) ((c : Thread nD τ).loc cc0_stg2_0)) :
    iprop(records m K ∗ linear (F := F) c ∗ credits (F := F) c ∗ levAts L lv ∗ owe (F := F) c (O₀ c) ∗ ins m c
      ∗ (((c : Thread nD τ).loc cc0_scratch0) ↦{fullShare} f) ∗ (((c : Thread nD τ).loc cc0_stg2_0) ↦{fullShare} g))
      ⊢ Sg m K c 0 := by
  unfold linear payToks credits
  rw [ck_split]
  iintro ⟨#HR, ⟨⟨HpB, HpS, HpV⟩, HtB, HtV, HtS⟩, ⟨HcB, HcV⟩, #Hlev, HO, Hin, Hy, Ho⟩
  ihave Hsl := (slabs_start (F := F) c f) $$ [Hy HpS HtV HtS]
  · isplitl [Hy]; · iexact Hy
    isplitl [HpS]; · iexact HpS
    isplitl [HtV]; · iexact HtV
    iexact HtS
  ihave Hrv := (recvs_start m c) $$ [HpV HcV]
  · isplitl [HpV]; · iexact HpV
    iexact HcV
  ihave Hsg := (signals_start (F := F) c g) $$ [Ho HtB]
  · isplitl [Ho]; · iexact Ho
    iexact HtB
  icases Hsg with ⟨Hsg, Hown⟩
  unfold Sg
  isplitr
  · unfold Pers
    isplitr; · iexact HR
    iexact Hlev
  isplitl [HO]; · rw [rem_zero]; unfold O₀; iexact HO
  isplitl [Hin]; · iexact Hin
  isplitl [Hsg]; · iexact Hsg
  isplitl [HcB]; · iexact HcB
  isplitl [HpB]; · iexact HpB
  isplitl [Hown]; · iexact Hown
  isplitl [Hsl]; · iexact Hsl
  iexact Hrv

/-! ## After the body -/

/-- A cell whose later rounds have no duty is closed at zero. -/
theorem close_cell (K : Ck → ℕ) (ck : Ck) (R : ℕ) (hR : ∀ r, R ≤ r → (Rd (F := F) m).duties (kcell ck) r = ∅) :
    iprop(Pers m K ∗ atPos ER (kcell ck) R ∅ 0) ⊢ |={Set.univ}=> (semVal (kcell ck) 0 : sProp 𝕄) := by
  unfold Pers
  iintro ⟨⟨#HR, -⟩, Hp⟩
  iapply (Rounds.cell_close ER (Rd m) (Set.mem_univ (K ck)) (fun h => h) (R := R) hR)
  isplitr; · iapply (inv_at m K ck); iexact HR
  iexact Hp

/-- A slab at the end. -/
theorem close_slab (K : Ck → ℕ) (c j : Dev nD) :
    iprop(Pers m K ∗ slabAt m c 64 j) ⊢ |={Set.univ}=> iprop((∃ f, yPts (F := F) c j f) ∗ semVal (sendCell c j) 0
      ∗ if j = c then oPts c j (outFin m c) else iprop(emp)) := by
  have hj : j.val < 16 := j.isLt
  unfold slabAt
  rw [if_neg (by omega)]
  by_cases h : j = c
  · subst h
    rw [if_pos rfl, if_neg (by omega), if_pos rfl]
    unfold own
    iintro ⟨#P, Hy, Hp, Ho⟩
    imod (close_cell m K (j, .inr (.inl j)) 0 (duties_send_self m j)) $$ [Hp] with Hz
    · isplitr; · iexact P
      iexact Hp
    imodintro
    isplitl [Hy]; · iexact Hy
    isplitl [Hz]; · iexact Hz
    iexact Ho
  · rw [if_neg h, if_neg (by omega), if_neg (by omega), if_neg h]
    unfold back
    iintro ⟨#P, Hy, Hp⟩
    imod (close_cell m K (c, .inr (.inl j)) 1 (duties_later m (sendCell c j))) $$ [Hp] with Hz
    · isplitr; · iexact P
      iexact Hp
    imodintro
    isplitl [Hy]; · iexact Hy
    isplitl [Hz]; · iexact Hz
    iempintro

/-- A received row block at the end. -/
theorem close_recv (K : Ck → ℕ) (c s : Dev nD) :
    iprop(Pers m K ∗ recvAt m c 16 s) ⊢ |={Set.univ}=> iprop(semVal (recvCell c s) 0
      ∗ if s = c then iprop(emp) else oPts c s (outFin m c)) := by
  have hs : s.val < 16 := s.isLt
  unfold recvAt
  by_cases h : s = c
  · subst h
    rw [if_pos rfl, if_pos rfl]
    iintro ⟨#P, Hp⟩
    imod (close_cell m K (s, .inr (.inr s)) 0 (duties_recv_self m s)) $$ [Hp] with Hz
    · isplitr; · iexact P
      iexact Hp
    imodintro
    isplitl [Hz]; · iexact Hz
    iempintro
  · rw [if_neg h, if_neg (by omega), if_neg h]
    iintro ⟨#P, Ho, Hp⟩
    imod (close_cell m K (c, .inr (.inr s)) 1 (duties_later m (recvCell c s))) $$ [Hp] with Hz
    · isplitr; · iexact P
      iexact Hp
    imodintro
    isplitl [Hz]; · iexact Hz
    iexact Ho

/-- After the body, beside the staged buffers: the scratch buffer, and every cell closed. -/
def Φ₁ (c : Dev nD) : sProp 𝕄 :=
  iprop((∃ f : Buf (Elt F) ((c : Thread nD τ).loc cc0_scratch0), ((c : Thread nD τ).loc cc0_scratch0) ↦{fullShare} f)
    ∗ bigSep Finset.univ fun k : Unit ⊕ (Dev nD ⊕ Dev nD) => semVal (kcell (c, k)) 0)

/-- Out of the body. -/
theorem leave (K : Ck → ℕ) (c : Dev nD) :
    St m K c 64 16 ⊢ |={Set.univ}=> iprop(Φ₁ (F := F) c ∗ owe (F := F) c 0 ∗ ins m c ∗ (((c : Thread nD τ).loc cc0_stg2_0) ↦{fullShare} outFin m c)) := by
  unfold St
  rw [pend_late c 64 (by decide), owR_empty]
  iintro ⟨#P, HO, Hin, HpB, Hsl, Hrv⟩
  imod (close_cell m K (c, .inl ()) 1 (duties_later m (barCell c))) $$ [HpB] with HzB
  · isplitr; · iexact P
    iexact HpB
  imod ((bigSep_with_persistent (R := Pers m K) (S := Finset.univ) fun j _ => close_slab m K c j).trans (bigSep_fupd _ _)) $$ [Hsl] with Hsl
  · isplitr; · iexact P
    iexact Hsl
  imod ((bigSep_with_persistent (R := Pers m K) (S := Finset.univ) fun s _ => close_recv m K c s).trans (bigSep_fupd _ _)) $$ [Hrv] with Hrv
  · isplitr; · iexact P
    iexact Hrv
  imodintro
  ihave Hsl := (Entails.of_eq (bigSep_sep' Finset.univ (fun j : Dev nD => iprop(∃ f, yPts (F := F) c j f)) _)) $$ Hsl
  icases Hsl with ⟨Hy, Hsl⟩
  ihave Hsl := (Entails.of_eq (bigSep_sep' Finset.univ (fun j : Dev nD => (semVal (sendCell c j) 0 : sProp 𝕄)) _)) $$ Hsl
  icases Hsl with ⟨HzS, Ho1⟩
  ihave Hrv := (Entails.of_eq (bigSep_sep' Finset.univ (fun j : Dev nD => (semVal (recvCell c j) 0 : sProp 𝕄)) _)) $$ Hrv
  icases Hrv with ⟨HzV, Ho2⟩
  ihave Ho := (join_one c fun s => oPts c s (outFin m c)) $$ [Ho1 Ho2]
  · isplitl [Ho1]; · iexact Ho1
    iexact Ho2
  isplitl [Hy HzB HzS HzV]
  · unfold Φ₁
    isplitl [Hy]
    · iapply (y_join (F := F) c (m ((c : Thread nD τ).loc cc0_scratch0))); iexact Hy
    rw [ck_split]
    isplitl [HzB]; · iexact HzB
    isplitl [HzS]; · iexact HzS
    iexact HzV
  isplitl [HO]; · iexact HO
  isplitl [Hin]; · iexact Hin
  rw [o_blocks]; iexact Ho

/-! ## The pipeline's proof data and the body's obligation -/

/-- Before the body, beside the staged buffers. -/
def Φ₀ (c : Dev nD) : sProp 𝕄 :=
  iprop(start m c ∗ ∃ f : Buf (Elt F) ((c : Thread nD τ).loc cc0_scratch0), ((c : Thread nD τ).loc cc0_scratch0) ↦{fullShare} f)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => outFin m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem fetch_x (t : Fin cfg0.N) : (cfg0.win (0 : Fin 3)).fetch t = true := by rw [fin_N0 t]; rfl
theorem fetch_w (t : Fin cfg0.N) : (cfg0.win (1 : Fin 3)).fetch t = true := by rw [fin_N0 t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole staging buffer held at `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
def bodyPost (c : Dev nD) : sProp 𝕄 :=
  iprop(Φ₁ (F := F) c ∗ (dats m 0 c).owesAt () t0_0.succ ∗ stg c cc0_stg0_0 (xstg m c) ∗ stg c cc0_stg1_0 (wstg m c)
    ∗ stg c cc0_stg2_0 (outFin m c))

theorem enter_body (c : Dev nD) : bodyPre m c ⊢ iprop(∃ K, Sg m K c 0) := by
  unfold bodyPre Φ₀ start Dat.owesAt Pipeline.owesWithin
  rw [show (dats m 0 c).owed t0_0.castSucc = O₀ c from rfl]
  iintro ⟨⟨⟨⟨%K, #HR, Hlin⟩, Hcr, #Hlev⟩, %f, Hscr⟩, ⟨%W, %hW, HO⟩, ⟨%d0, %g0, %hg0, Hx⟩, ⟨%d1, %g1, %hg1, Hw⟩, ⟨%d2, %g2, %hg2, Ho⟩⟩
  have hx : g0 = xstg m c := by rw [hg0]; unfold Dat.before; rw [if_pos (fetch_x t0_0)]; rfl
  have hw : g1 = wstg m c := by rw [hg1]; unfold Dat.before; rw [if_pos (fetch_w t0_0)]; rfl
  subst hx hw
  iexists K
  iapply (enter m K c f g2)
  isplitr; · iexact HR
  isplitl [Hlin]; · iexact Hlin
  isplitl [Hcr]; · iexact Hcr
  isplitr; · iexact Hlev
  isplitl [HO]; · unfold owe; iexists W; iexact HO
  isplitl [Hx Hw]
  · unfold ins
    isplitl [Hx]; · iexact Hx
    iexact Hw
  isplitl [Hscr]; · iexact Hscr
  iexact Ho

theorem leave_body (K : Ck → ℕ) (c : Dev nD) : St m K c 64 16 ⊢ |={Set.univ}=> bodyPost m c := by
  refine (leave m K c).trans (BI.fupd_mono ?_)
  unfold bodyPost Dat.owesAt Pipeline.owesWithin owe ins
  rw [show (dats m 0 c).owed t0_0.succ = 0 from rfl]
  show (_ : sProp 𝕄) ⊢ _
  iintro ⟨HΦ, ⟨%W, HO⟩, ⟨Hx, Hw⟩, Ho⟩
  isplitl [HΦ]; · iexact HΦ
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

theorem sound_body (c : Dev nD) :
    bodyPre m c ⊢ WP c (cc0_body (F := F) xM (Memref.isWhole_whole _) wM (Memref.isWhole_whole _) oM (Memref.isWhole_whole _)
      yM (Memref.isWhole_whole _) cc0_scratch1 cc0_scratch2) (fun _ => bodyPost m c) := by
  refine (enter_body m c).trans ?_
  iintro ⟨%K, H⟩
  iapply (body_run m K (Q := fun _ => bodyPost m c) c (by unfold WP; rw [wp_ret]; exact leave_body m K c))
  iexact H

/-- The library's body obligation on core `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ WP c (cc0_body (F := F) xM (Memref.isWhole_whole _) wM (Memref.isWhole_whole _) oM (Memref.isWhole_whole _)
      yM (Memref.isWhole_whole _) cc0_scratch1 cc0_scratch2) (fun _ => bodyPost m c)
  exact sound_body m c

end Cert.A2A

end
-- ==== Proof.Run.lean ====
/-
# The all-to-all kernel: the run

The semaphore cells are allocated for all devices at once and every device is dealt what it starts from; the launch
theorem then gives the run of the whole program: it ends, the arguments hold what they held, every result array holds
`outFin`, and every semaphore counter is zero again.
-/
module

public import proofs.«01_k».proof.Proof.Ends
public import Idealize.ShloMosaic.Lib.Pipeline.CollectiveSegs

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What is minted -/

theorem ownSemFacts : Pipeline.OwnSemFacts cfg0.spec osem := by decide

theorem share_eq (c : Dev nD) (w : Fin cfg0.W) : (dats m 0 c).share w = fullShare := by unfold Dat.share; split <;> rfl

def theCells : Finset (GSem nD τ sig) := Finset.univ.map ⟨kcell, kcell_injective⟩

/-- The cell and the duty of a token: device `x.1` signals, or copies to, or waits for its copy to, another device. -/
abbrev tokCk (x : Dev nD × (Dev nD ⊕ (Dev nD ⊕ Dev nD))) : Ck × Dev nD := match x.2 with
  | .inl p => ((p, .inl ()), x.1)
  | .inr (.inl j) => ((j, .inr (.inr x.1)), x.1)
  | .inr (.inr j) => ((x.1, .inr (.inl j)), j)
abbrev tokOf (x : Dev nD × (Dev nD ⊕ (Dev nD ⊕ Dev nD))) : GSem nD τ sig × ℕ × Dev nD := (kcell (tokCk x).1, 0, (tokCk x).2)

theorem tokOf_injective : Function.Injective tokOf := by
  intro x y h
  have h1 : (tokCk x).1 = (tokCk y).1 := kcell_injective (congrArg Prod.fst h)
  have h2 : (tokCk x).2 = (tokCk y).2 := congrArg (fun t : GSem nD τ sig × ℕ × Dev nD => t.2.2) h
  obtain ⟨a, p | j | j⟩ := x <;> obtain ⟨b, p' | j' | j'⟩ := y <;>
    simp only [tokCk, Prod.mk.injEq, Sum.inl.injEq, Sum.inr.injEq, reduceCtorEq, and_false, false_and, and_true] at h1 h2
  · rw [h1, h2]
  · rw [h1.1, h2]
  · rw [h1.1, h2]

def theToks : Finset (GSem nD τ sig × ℕ × Dev nD) := Finset.univ.map ⟨tokOf, tokOf_injective⟩

def u₀ : UU :=
  (initOf (Pipeline.cells cfgs cellOf_inj) (Pipeline.launchToks cfgs cellOf_inj), initOf theCells theToks)

/-- What the launch element deals device `c`, -/
def G (c : Dev nD) : sProp 𝕄 :=
  iprop((bigSep Finset.univ fun k : Unit ⊕ (Dev nD ⊕ Dev nD) => roundState ER (Rd (F := F) m) (kcell (c, k)) 0)
    ∗ (bigSep Finset.univ fun k : Unit ⊕ (Dev nD ⊕ Dev nD) => reached ER (kcell (c, k)) 0) ∗ linear (F := F) c)
/-- and what the allocation of the cells makes of it. -/
def G' (c : Dev nD) : sProp 𝕄 := iprop(∃ K, records m K ∗ linear (F := F) c)

theorem fund_cells : BI.own (ER (initOf theCells theToks)) ⊢ (|==> bigSep Finset.univ (G (F := F) m) : sProp 𝕄) := by
  have hX (Φ : GSem nD τ sig → sProp 𝕄) : bigSep theCells Φ
      = bigSep Finset.univ fun c : Dev nD => bigSep Finset.univ fun k : Unit ⊕ (Dev nD ⊕ Dev nD) => Φ (kcell (c, k)) := by
    unfold theCells; rw [bigSep_map, bigSep_univ_prod]; rfl
  have hT : bigSep theToks (fun x => (dutyTok ER x.1 x.2.1 x.2.2 : sProp 𝕄)) = bigSep Finset.univ fun c : Dev nD => payToks (F := F) c := by
    unfold theToks; rw [bigSep_map, bigSep_univ_prod]
    exact bigSep_congr fun c _ => by unfold payToks; rw [bigSep_univ_sum, bigSep_univ_sum]; rfl
  iintro HX
  imod (Rounds.fund ER (Rd (F := F) m) theCells theToks) $$ HX with ⟨Hst, Hr, Hat, Htok⟩
  imodintro
  ihave Hst' := (Entails.of_eq (hX fun g => roundState ER (Rd (F := F) m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G linear; simp only [bigSep_sep']
  isplitl [Hst']; · iexact Hst'
  isplitl [Hr']; · iexact Hr'
  isplitl [Hat'] <;> iassumption

/-! ## The cells' invariants -/

theorem unscopedSems0_eq (c : Dev nD) : (unscopedSems0 c : sProp 𝕄) = semVal (barCell c) 0 := by
  unfold unscopedSems0; rw [bigSep_eq_bigSepL_of_eq [SemLoc.reg barS] (by decide) (by decide)]; rfl

/-- All the protocol's counters of a device: its own semaphores' and the barrier semaphore's. -/
theorem sems0_eq (c : Dev nD) :
    (bigSep Finset.univ fun k : Unit ⊕ (Dev nD ⊕ Dev nD) => semVal (kcell (c, k)) 0 : sProp 𝕄)
      = iprop(unscopedSems0 c ∗ Pipeline.ownSems0 (Ix := Unit) (Name := ℕ) (U := UU) (Lvl := ℕ) (Val := Elt F) (τ := τ) osem c) := by
  rw [unscopedSems0_eq, bigSep_univ_sum, show (Finset.univ : Finset Unit) = {()} from rfl, bigSep_singleton]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Unit ⊕ (Dev nD ⊕ Dev nD) => iprop(∃ κ : ℕ, cellInv ER (Rd m) κ (kcell (c, k))))
          ∗ (bigSep Finset.univ fun k : Unit ⊕ (Dev nD ⊕ Dev nD) => reached ER (kcell (c, k)) 0) ∗ linear (F := F) c) := by
  unfold G
  iintro ⟨Hos, Hus, Hst, Hr, Hlin⟩
  ihave Hv := (Entails.of_eq (sems0_eq (F := F) c).symm) $$ [Hos Hus]
  · isplitl [Hus] <;> iassumption
  imod (show iprop((bigSep Finset.univ fun k : Unit ⊕ (Dev nD ⊕ Dev nD) => semVal (kcell (c, k)) 0)
        ∗ bigSep Finset.univ fun k : Unit ⊕ (Dev nD ⊕ Dev nD) => roundState ER (Rd m) (kcell (c, k)) 0)
      ⊢ (|={Set.univ}=> bigSep Finset.univ fun k : Unit ⊕ (Dev nD ⊕ Dev nD) => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hr] <;> iassumption

theorem regroup :
    (bigSep Finset.univ fun c : Dev nD => iprop((bigSep Finset.univ fun k : Unit ⊕ (Dev nD ⊕ Dev nD) => iprop(∃ κ : ℕ, cellInv ER (Rd m) κ (kcell (c, k))))
          ∗ (bigSep Finset.univ fun k : Unit ⊕ (Dev nD ⊕ Dev nD) => reached ER (kcell (c, k)) 0) ∗ linear (F := F) c) : sProp 𝕄)
      ⊢ bigSep Finset.univ (G' m) := by
  rw [bigSep_sep', bigSep_sep', ← bigSep_univ_prod (fun ck : Ck => iprop(∃ κ : ℕ, cellInv ER (Rd m) κ (kcell ck))),
    ← bigSep_univ_prod (fun ck : Ck => (reached ER (kcell ck) 0 : sProp 𝕄))]
  iintro ⟨HI, #HR, Hlin⟩
  ihave HK := (BI.bigSep_exists_pi Finset.univ (fun (ck : Ck) (κ : ℕ) => (cellInv ER (Rd m) κ (kcell ck) : sProp 𝕄))) $$ HI
  icases HK with ⟨%K, #HI⟩
  iapply (bigSep_with_persistent (R := records m K) (Φ := linear (F := F)) fun c _ => show iprop(records m K ∗ linear (F := F) c) ⊢ G' m c from by
    unfold G'; iintro H; iexists K; iexact H)
  isplitr
  · unfold records; isplitl; · iexact HI
    iexact HR
  · iexact Hlin

/-- Every device's semaphores become cells, all under one update. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- A sum of tallies, read at one of their cells. -/
theorem sum_tally_at {f : Dev nD → GSem nD τ sig} (hf : Function.Injective f) (n : ℕ) (T : Finset (Dev nD)) (q : Dev nD) :
    (∑ p ∈ T, tallyAt (f p) () n : CellTallies nD τ sig Unit) (f q) () = if q ∈ T then n else 0 := by
  rw [Finset.sum_apply, Finsupp.finsetSum_apply, ← Finset.sum_ite_eq T q fun _ => n]
  refine Finset.sum_congr rfl fun p _ => ?_
  rw [tallyAt_apply]
  by_cases h : q = p
  · rw [if_pos h, if_pos ⟨congrArg f h, rfl⟩]
  · rw [if_neg h, if_neg fun h' => h (hf h'.1)]
/-- A sum of tallies is nothing at any other cell. -/
theorem sum_tally_off {f : Dev nD → GSem nD τ sig} (n : ℕ) (T : Finset (Dev nD)) (g : GSem nD τ sig) (h : ∀ p, g ≠ f p) :
    (∑ p ∈ T, tallyAt (f p) () n : CellTallies nD τ sig Unit) g () = 0 := by
  by_contra hne
  obtain ⟨p, -, e⟩ := sum_tally_pos (Nat.pos_of_ne_zero hne)
  exact h p e

theorem bar_inj : Function.Injective barCell := fun a b h =>
  (Prod.mk.inj (kcell_injective (show kcell (a, .inl ()) = kcell (b, .inl ()) from h))).1
theorem recv_eq {p s p' s' : Dev nD} (h : recvCell p s = recvCell p' s') : p = p' ∧ s = s' := by
  have := kcell_injective (show kcell (p, .inr (.inr s)) = kcell (p', .inr (.inr s')) from h)
  simp only [Prod.mk.injEq, Sum.inr.injEq] at this
  exact this
theorem recv_ne_bar (p s q : Dev nD) : recvCell p s ≠ barCell q := fun h => by
  have := kcell_injective (show kcell (p, .inr (.inr s)) = kcell (q, .inl ()) from h)
  simp only [Prod.mk.injEq, reduceCtorEq, and_false] at this

theorem owed_bar (d c : Dev nD) : O₀ d (barCell c) () = if c ∈ (Finset.univ : Finset (Dev nD)).erase d then 1 else 0 := by
  unfold O₀ owR owB
  rw [Pi.add_apply, Finsupp.add_apply, sum_tally_off N _ _ (fun p h => recv_ne_bar p d c h.symm), sum_tally_at bar_inj, Nat.zero_add]
theorem owed_recv (d c s : Dev nD) (h : s ≠ c) : O₀ d (recvCell c s) () = if d = s then N else 0 := by
  unfold O₀ owR owB
  rw [Pi.add_apply, Finsupp.add_apply, sum_tally_off 1 _ _ (fun p => recv_ne_bar c s p), Nat.add_zero]
  by_cases hd : d = s
  · subst hd
    rw [sum_tally_at (fun a b e => (recv_eq e).1), if_pos (Finset.mem_erase.mpr ⟨Ne.symm h, Finset.mem_univ _⟩), if_pos rfl]
  · rw [sum_tally_off N _ _ (fun p e => hd (recv_eq e).2.symm), if_neg hd]

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c s : Dev nD) (h : s ≠ c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s h, Finset.sum_ite_eq' Finset.univ s fun _ => N,
    if_pos (Finset.mem_univ _)]

/-- The receive semaphores, as a family. -/
def recvLoc : Dev nD ↪ SemLoc sig := ⟨fun s => .dma (recvS s), fun a b h => by
  have := csem_injective (show csem (.inr (.inr a)) = csem (.inr (.inr b)) from h)
  simpa only [Sum.inr.injEq] using this⟩

theorem creds (c : Dev nD) : (Pipeline.launchCred O₀ c : sProp 𝕄) ⊢ credits (F := F) c := by
  unfold Pipeline.launchCred credits
  rw [bigSep_univ_at _ (SemLoc.reg barS), launch_bar]
  refine sep_mono_right ?_
  refine (bigSep_subset (t := (Finset.univ.erase c).map recvLoc) fun x hx => ?_).trans ?_
  · obtain ⟨s, -, rfl⟩ := Finset.mem_map.mp hx
    exact Finset.mem_erase.mpr ⟨fun h => recv_ne_bar c s c (congrArg (Prod.mk (c : Thread nD τ)) h), Finset.mem_univ _⟩
  · rw [bigSep_map]
    exact bigSep_mono fun s hs => Entails.of_eq (congrArg cred (launch_recv c s (Finset.ne_of_mem_erase hs)))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁
  rw [sems0_eq]
  iintro ⟨Hr, Hu, Ho⟩
  isplitl [Hu]; · iexact Hu
  isplitl [Ho] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

set_option maxRecDepth 8000 in
/-- From any memory with zero counters, every weakly fair execution of the program on the sixteen devices ends, with each
    window's array at its computed contents and every counter at zero. -/
theorem run_arrays : θ_run defs (onTc (τ := τ) (main (F := F))) ⟨m, fun _ => 0, ρ⟩
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays after the run hold what they held, -/
theorem finalA_x (c : Dev nD) : finalA m c (0 : Fin 3) = m ((c : Thread nD τ).loc main_arg0) :=
  (dats (F := F) m 0 c).arrAt_in (0 : Fin 3) rfl _
theorem finalA_w (c : Dev nD) : finalA m c (1 : Fin 3) = m ((c : Thread nD τ).loc main_arg1) :=
  (dats (F := F) m 0 c).arrAt_in (1 : Fin 3) rfl _

/-- and the result array holds `outFin`. -/
theorem finalA_o (c : Dev nD) : finalA m c (2 : Fin 3) = outFin m c := by
  have h : (win0_2.blk (0 : Fin 1)).view.read (Elt F) (finalA m c (2 : Fin 3)) = outFin m c := by
    unfold finalA
    rw [show cfg0.N = ((0 : Fin 1) : Fin cfg0.N).val + 1 from rfl, (dats m 0 c).arrAt_succ (2 : Fin 3) (0 : Fin 1)]
    rw [show (cfg0.win (2 : Fin 3)).flush (0 : Fin 1) = true from by decide, if_pos rfl]
    exact View.read_write_univ _ _
  have hz : (fun a => (win0_2.index (0 : Fin 1)) a * main_v1.ty.shape.size a) = fun _ => 0 :=
    funext fun a => by fin_cases a <;> decide
  rw [← h]
  exact (Memref.read_access_unit_zero (Elt F) main_v1 hz (fun a => by fin_cases a <;> decide) _).symm

/-- The run, buffer by buffer. -/
theorem run_main : θ_run defs (onTc (τ := τ) (main (F := F))) ⟨m, fun _ => 0, ρ⟩
    (fun r => (∀ c : Dev nD, r.2.mem ((c : Thread nD τ).loc main_v1) = outFin m c
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  (θ_run defs _ _).mono (fun r h => ⟨fun c => ⟨(h.1 c (2 : Fin 3)).trans (finalA_o m c), (h.1 c (0 : Fin 3)).trans (finalA_x m c),
    (h.1 c (1 : Fin 3)).trans (finalA_w m c)⟩, h.2⟩) (run_arrays m ρ)

/-- What is staged is the whole argument. -/
theorem xstg_eq (c : Dev nD) : xstg m c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _
theorem wstg_eq (c : Dev nD) : wstg m c = m ((c : Thread nD τ).loc main_arg1) := by
  have hz : (fun a => (win0_1.index (0 : Fin 1)) a * main_arg1.ty.shape.size a) = fun _ => 0 :=
    funext fun a => by fin_cases a <;> decide
  exact Memref.read_access_unit_zero (Elt F) main_arg1 hz (fun a => by fin_cases a <;> decide) _

end Cert.A2A

end
-- ==== Proof.Value.lean ====
/-
# The all-to-all kernel: what it computes, against the reference

At the ideal values a format change is the identity and a matrix product is a sum, so every element of the kernel's
result is `max (∑ k, x k * w k) 0` for one row of `x` and one column of `w`, and so is every element of the
reference's. What is left is to see that the rows and the columns are the same ones: element `(64 * s + r, l)` of device
`p`'s result comes from row `r` of device `s`'s block of `x`, which is row `64 * s + r` of `x`, and from column
`128 * (p / 2) + 64 * (p % 2) + l = 64 * p + l` of `w`.
-/
module

public import proofs.«01_k».proof.Proof.Run
public import proofs.«01_k».proof.Proof.Gen.ReferenceIdeal.Run
public import Idealize.ShloMosaic.Lib.MatmulPlain
public import Idealize.ShloMosaic.Lib.StackMember
public import Idealize.ShloMosaic.Lib.Layout

@[expose] public section

noncomputable section

namespace Cert.A2A

open Cert.KernelIdeal Cert.KernelIdeal.Gen
open Idealize.ShloMosaic hiding ix2 eq_ix2
open Idealize.ShloMosaic.TcCoe
open Idealize.ShloMosaic.ValueIdx (ix2 eq_ix2)
open scoped BigOperators

/-- One element of `relu (x · w)`: row `r` of `x` by column `l` of `w`, and nothing below zero. -/
def entry {M K N : ℕ} (x : FVec Ideal ⟨2, ![M, K]⟩ .bf16) (w : FVec Ideal ⟨2, ![K, N]⟩ .bf16) (r : Fin M) (l : Fin N) :
    Ideal .bf16 :=
  max (∑ k : Fin K, x (ix2 r k) * w (ix2 k l)) (Ideal.ofBits .f32 0x00000000#32)

/-- Two elements agree when their row of `x` and their column of `w` do. -/
theorem entry_congr {M M' K N N' : ℕ} {x : FVec Ideal ⟨2, ![M, K]⟩ .bf16} {w : FVec Ideal ⟨2, ![K, N]⟩ .bf16}
    {x' : FVec Ideal ⟨2, ![M', K]⟩ .bf16} {w' : FVec Ideal ⟨2, ![K, N']⟩ .bf16} {r : Fin M} {l : Fin N} {r' : Fin M'}
    {l' : Fin N'} (hx : ∀ k, x (ix2 r k) = x' (ix2 r' k)) (hw : ∀ k, w (ix2 k l) = w' (ix2 k l')) :
    entry x w r l = entry x' w' r' l' := by
  unfold entry
  rw [Finset.sum_congr rfl fun k _ => by rw [hx k, hw k]]

/-! ## The kernel's side -/

/-- The kernel's arithmetic, at an index. -/
theorem pay2_apply (x : FVec Ideal S64x1024 .bf16) (w : FVec Ideal S1024x128 .bf16) (r : Fin 64) (l : Fin 128) :
    k0_pay2 x w (ix2 r l) = entry x w r l := by
  show max (FloatOps.matmul (DotDims.plain 64 1024 128) none (shapeCast S64x1024 x shapeCasts_S64x1024_S64x1024)
    (shapeCast S1024x128 w shapeCasts_S1024x128_S1024x128) (constant S64x128 .f32 0x00000000#32) (ix2 r l))
    (Ideal.ofBits .f32 0x00000000#32) = _
  rw [Ideal.matmul_plain_apply, shapeCast_self, shapeCast_self]
  unfold entry
  rw [show constant (F := Ideal) S64x128 .f32 0x00000000#32 (ix2 r l) = 0 from Ideal.ofBits_zero .f32, zero_add]

variable (m : (ℓ : Loc nD τ sig) → Buf (Elt Ideal) ℓ)

/-- The load of `x` reads the whole of the device's block. -/
theorem xval_eq (c : Dev nD) : xval m c = m ((c : Thread nD τ).loc main_arg0) := by
  unfold xval
  rw [xstg_eq]
  exact Memref.readAt_unit_zero (Elt Ideal) cc0_stg0_0 (by funext a; fin_cases a <;> rfl) _ _

/-- The `q`-th load of `w` reads 128 columns from column `128 * q` on. -/
theorem wval_apply (c : Dev nD) (q : Fin 8) (k : Fin 1024) (l : Fin 128) (l' : Fin 1024) (h : l'.val = 128 * q.val + l.val) :
    wval m c q (ix2 k l) = (m ((c : Thread nD τ).loc main_arg1) : S1024x1024.Idx → Ideal .bf16) (ix2 k l') := by
  unfold wval
  rw [wstg_eq]
  show (m ((c : Thread nD τ).loc main_arg1) : S1024x1024.Idx → Ideal .bf16) _ = _
  refine congrArg (m ((c : Thread nD τ).loc main_arg1) : S1024x1024.Idx → Ideal .bf16) (funext fun a => Fin.ext ?_)
  fin_cases a
  · show 0 + 1 * k.val = k.val; omega
  · show 128 * q.val + 1 * l.val = l'.val; omega

/-- The two halves of a pair start 64 columns apart. -/
theorem half_apply (b : Bool) (P : FVec Ideal S64x128 .bf16) (r l : Fin 64) (l' : Fin 128)
    (h : l'.val = (if b then 64 else 0) + l.val) : half b P (ix2 r l) = P (ix2 r l') := by
  unfold half
  cases b
  · refine extractStridedSlice_apply _ P slices_S64x128_o0_0_S64x64 _ (ix2 r l') fun a => ?_
    fin_cases a
    · show r.val = 0 + r.val; omega
    · exact h
  · refine extractStridedSlice_apply _ P slices_S64x128_o0_64_S64x64 _ (ix2 r l') fun a => ?_
    fin_cases a
    · show r.val = 0 + r.val; omega
    · exact h

/-- The slab device `s` computes for device `p` is `relu (x_s · w)` on the columns from `64 * p` on. -/
theorem slab_apply (s p : Dev nD) (r l : Fin 64) (l' : Fin 1024) (h : l'.val = 64 * p.val + l.val) :
    lv64 m s p (ix2 r l) = entry (m ((s : Thread nD τ).loc main_arg0) : S64x1024.Idx → Ideal .bf16)
      (m ((s : Thread nD τ).loc main_arg1) : S1024x1024.Idx → Ideal .bf16) r l' := by
  have hp : p.val < 16 := p.isLt
  have hl : l.val < 64 := l.isLt
  have hpar : (if (p.val % 2 == 1) then 64 else 0) = 64 * (p.val % 2) := by
    rcases Nat.mod_two_eq_zero_or_one p.val with e | e <;> rw [e] <;> rfl
  unfold lv64 yv
  rw [shapeCast_shapeCast]
  unfold slab
  rw [half_apply _ _ r l ⟨64 * (p.val % 2) + l.val, by omega⟩ (by rw [hpar])]
  unfold pair
  rw [pay2_apply, xval_eq]
  exact entry_congr (fun _ => rfl) fun k => wval_apply m s _ k _ l' (by
    show l'.val = 128 * (p.val / 2) + (64 * (p.val % 2) + l.val); omega)

/-! ## The reference's side -/

/-- The reference's result, as its run leaves it. -/
abbrev refOut (x w : FVec Ideal S1024x1024 .bf16) : FVec Ideal S1024x1024 .bf16 :=
  truncf .bf16 (maximumf (extf .f32 (truncf .bf16 (Host.dotGeneral
      Cert.ReferenceIdeal.dot_S1024x1024_S1024x1024_S1024x1024_1_0_0_1_n_n none x w)
      Cert.ReferenceIdeal.Gen.bitsLt_bf16_f32) Cert.ReferenceIdeal.Gen.bitsLt_bf16_f32)
    (broadcastInDim S1024x1024 ![] Cert.ReferenceIdeal.Gen.bcast_S_S1024x1024
      (constant (F := Ideal) Cert.ReferenceIdeal.S_ .f32 0x00000000#32))) Cert.ReferenceIdeal.Gen.bitsLt_bf16_f32

theorem refOut_apply (x w : FVec Ideal S1024x1024 .bf16) (r l : Fin 1024) : refOut x w (ix2 r l) = entry x w r l := by
  show max (Host.dotGeneral (DotDims.plain 1024 1024 1024) none x w (ix2 r l)) (Ideal.ofBits .f32 0x00000000#32) = _
  rw [StackMember.dotGeneral_plain_apply]
  rfl

/-! ## The two together -/

/-- Where the devices' arguments are their parts of the reference's, each device's result is its part of the
    reference's result. -/
theorem outFin_eq (x w : FVec Ideal S1024x1024 .bf16)
    (hx : ∀ c : Dev nD, m ((c : Thread nD τ).loc main_arg0) = Layout.block ⟨2, ![64, 1024]⟩ ⟨2, ![1024, 1024]⟩ 0 16 c x)
    (hw : ∀ c : Dev nD, m ((c : Thread nD τ).loc main_arg1) = w) (p : Dev nD) :
    outFin m p = Layout.block ⟨2, ![1024, 64]⟩ ⟨2, ![1024, 1024]⟩ 1 16 p (refOut x w) := by
  have hp : p.val < 16 := p.isLt
  funext i
  obtain ⟨R, l, rfl⟩ : ∃ (R : Fin 1024) (l : Fin 64), i = ix2 R l := ⟨i 0, i 1, eq_ix2 i⟩
  have hR : R.val < 1024 := R.isLt
  have hl : l.val < 64 := l.isLt
  have hcol : 64 * p.val + l.val < 1024 := by omega
  have hl' : outFin m p (ix2 R l)
      = lv64 m ⟨R.val / 64, by show _ < 16; omega⟩ p (ix2 (⟨R.val % 64, Nat.mod_lt _ (by decide)⟩ : Fin 64) l) := by
    refine congrArg (lv64 m ⟨R.val / 64, by show _ < 16; omega⟩ p) (funext fun a => ?_)
    fin_cases a <;> rfl
  have hr' : Layout.block ⟨2, ![1024, 64]⟩ ⟨2, ![1024, 1024]⟩ 1 16 p (refOut x w) (by decide) (ix2 R l)
      = refOut x w (ix2 R (⟨64 * p.val + l.val, hcol⟩ : Fin 1024)) := by
    refine congrArg (refOut x w) (funext fun a => Fin.ext ?_)
    fin_cases a
    · rfl
    · show p.val * 64 + l.val = 64 * p.val + l.val; omega
  rw [hl', slab_apply m _ p _ l ⟨64 * p.val + l.val, hcol⟩ rfl]
  refine Eq.trans ?_ hr'.symm
  rw [refOut_apply]
  refine entry_congr (fun k => ?_) fun k => ?_
  · rw [hx]
    refine congrArg x (funext fun a => Fin.ext ?_)
    fin_cases a
    · show R.val / 64 * 64 + R.val % 64 = R.val; omega
    · rfl
  · rw [hw]

end Cert.A2A

end
-- ==== Proof.lean ====
/-
# The claims

Everything is proved in the modules under `Proof/`: `Run.lean` runs the kernel on all sixteen devices, at any float
values, and says what every device's result holds and that every semaphore counter is back at zero; `Value.lean` compares
that result with the reference's. Here the five claims are read off.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem

/-- The kernel printed twice is one program: the kernels' body tables agree, -/
theorem defs₀_eq {F : FTy → Type} [FloatOps F] : Cert.Kernel.defs₀ (F := F) = Cert.KernelIdeal.defs₀ := by
  unfold Cert.Kernel.defs₀ Cert.KernelIdeal.defs₀
  refine congrArg Defs.onTc ?_
  funext ℓ a
  match ℓ, a with
  | 0, (t, s) => rfl

/-- and so do the whole tables. -/
theorem defs_eq {F : FTy → Type} [FloatOps F] : Cert.Kernel.defs (F := F) = Cert.KernelIdeal.defs := by
  unfold Cert.Kernel.defs Cert.KernelIdeal.defs
  rw [defs₀_eq]
  rfl

/-- The kernel, at machine floats: it runs, and leaves its arguments and the counters as they were. -/
theorem kernel_frame : Cert.quiescent_Kernel (hKernel := Cert.Kernel.Gen.facts) := fun m ρ _ => by
  rw [defs_eq]
  exact (θ_run (Cert.KernelIdeal.defs (F := Bits)) _ _).mono (fun _ h => ⟨fun c => (h.1 c).2, h.2⟩)
    (Cert.A2A.run_main (F := Bits) m ρ)

/-- The same at the ideal values. -/
theorem kernelIdeal_frame : Cert.quiescent_KernelIdeal (hKernelIdeal := Cert.KernelIdeal.Gen.facts) := fun m ρ _ =>
  (θ_run (Cert.KernelIdeal.defs (F := Ideal)) _ _).mono (fun _ h => ⟨fun c => (h.1 c).2, h.2⟩)
    (Cert.A2A.run_main (F := Ideal) m ρ)

/-- The reference has no semaphores, and leaves its arguments as they were. -/
theorem referenceIdeal_frame : Cert.quiescent_ReferenceIdeal (hReferenceIdeal := Cert.ReferenceIdeal.Gen.facts) :=
  fun m ρ _ =>
    (θ_run (Cert.ReferenceIdeal.defs (F := Ideal)) _ _).mono
      (fun r h => ⟨fun c => (h c).2, Idealize.ShloMosaic.sem_eq_zero_of_no_sems (by decide) r.2⟩)
      (Cert.ReferenceIdeal.Value.run (F := Ideal) m ρ)

/-- Each device's result is its block of columns of the reference's result. -/
theorem kernelIdeal_algebraic : Cert.algebraic_KernelIdeal_ReferenceIdeal
    (hKernelIdeal := Cert.KernelIdeal.Gen.facts) (hReferenceIdeal := Cert.ReferenceIdeal.Gen.facts) :=
  fun m ρ m' ρ' _ hin =>
    ⟨Cert.A2A.refOut _ _,
      (θ_run (Cert.KernelIdeal.defs (F := Ideal)) _ _).mono
        (fun _ h c => ⟨(h.1 c).1.trans (Cert.A2A.outFin_eq m _ _ (fun c => (hin c).1) (fun c => (hin c).2) c), (h.1 c).2⟩)
        (Cert.A2A.run_main (F := Ideal) m ρ),
      (θ_run (Cert.ReferenceIdeal.defs (F := Ideal)) _ _).mono (fun _ h => h 0)
        (Cert.ReferenceIdeal.Value.run (F := Ideal) m' ρ')⟩

theorem claim : Cert.Claim :=
  ⟨Cert.Kernel.Gen.facts, Cert.KernelIdeal.Gen.facts, Cert.ReferenceIdeal.Gen.facts,
    kernel_frame, kernelIdeal_frame, referenceIdeal_frame, trivial, kernelIdeal_algebraic⟩

end Cert.Proof

end
